-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![4096, 768]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x256 : Shape := ⟨2, ![768, 256]⟩
abbrev S256x768 : Shape := ⟨2, ![256, 768]⟩
abbrev S256x64 : Shape := ⟨2, ![256, 64]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg6 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  main_v23

def fn {F : FTy → Type} [FloatOps F] (main_arg0 : FVec F S2x256x768 .f32) (main_arg1 : FVec F S768x256 .f32) (main_arg2 : FVec F S768x256 .f32) (main_arg3 : FVec F S768x256 .f32) (main_arg4 : FVec F S256x768 .f32) (main_arg5 : FVec F S256x64 .f32) (main_arg6 : FVec F S256x64 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Pre_finite_ReferenceIdeal.lean ====
abbrev S2x256x768 : Shape := ⟨3, ![2, 256, 768]⟩
abbrev S768x4096 : Shape := ⟨2, ![768, 4096]⟩
abbrev S4096x768 : Shape := ⟨2, ![4096, 768]⟩
abbrev S256x64 : Shape := ⟨2, ![256, 64]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg6 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  main_v23

def fn {F : FTy → Type} [FloatOps F] (main_arg0 : FVec F S2x256x768 .f32) (main_arg1 : FVec F S768x4096 .f32) (main_arg2 : FVec F S768x4096 .f32) (main_arg3 : FVec F S768x4096 .f32) (main_arg4 : FVec F S4096x768 .f32) (main_arg5 : FVec F S256x64 .f32) (main_arg6 : FVec F S256x64 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S768x4096 .f32 := Host.absf main_arg2
  let main_cst_2 : FVec F S_ .f32 := constant S_ .f32 0x7F800000#32
  let main_v10 : FVec F S768x4096 .f32 := broadcastInDim S768x4096 ![] bcast_S_S768x4096 main_cst_2
  let main_v11 : IVec S768x4096 1 := cmpf .olt main_v9 main_v10
  let main_c_3 : IVec S_ 1 := constantI S_ 1 1#1
  let main_v12 : IVec S_ 1 := (fun x v => Host.reduce IntOp.andi x v reducesTo_S768x4096_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Kernel.lean ====
abbrev S2x256x768 : Shape := ⟨3, ![2, 256, 768]⟩
abbrev S768x256 : Shape := ⟨2, ![768, 256]⟩
abbrev S256x768 : Shape := ⟨2, ![256, 768]⟩
abbrev S256x64 : Shape := ⟨2, ![256, 64]⟩
abbrev S2x16x768 : Shape := ⟨3, ![2, 16, 768]⟩
abbrev S2x256x256 : Shape := ⟨3, ![2, 256, 256]⟩
abbrev S16x2x16x768 : Shape := ⟨4, ![16, 2, 16, 768]⟩
abbrev S16 : Shape := ⟨1, ![16]⟩
abbrev S_ : Shape := ⟨0, ![]⟩
abbrev S256x256 : Shape := ⟨2, ![256, 256]⟩
abbrev S1x256x768 : Shape := ⟨3, ![1, 256, 768]⟩
abbrev S256 : Shape := ⟨1, ![256]⟩
abbrev S256x1 : Shape := ⟨2, ![256, 1]⟩
abbrev S1x256x64 : Shape := ⟨3, ![1, 256, 64]⟩
abbrev S1x256x256 : Shape := ⟨3, ![1, 256, 256]⟩
abbrev S1 : Shape := ⟨1, ![1]⟩
abbrev S1x2x16x768 : Shape := ⟨4, ![1, 2, 16, 768]⟩
abbrev S1x16x768 : Shape := ⟨3, ![1, 16, 768]⟩
abbrev S16x768 : Shape := ⟨2, ![16, 768]⟩

abbrev nBuf : Space → Nat
  | .hbm => 8
  | .vmem => 15
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S256x64, .f32⟩
  | .hbm, ⟨6, _⟩ => ⟨S256x64, .f32⟩
  | .hbm, ⟨7, _⟩ => ⟨S2x256x768, .f32⟩
  | .local _ .vmem, ⟨0, _⟩ => ⟨S2x256x768, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S256x768, .f32⟩
  | .local _ .vmem, ⟨5, _⟩ => ⟨S256x64, .f32⟩
  | .local _ .vmem, ⟨6, _⟩ => ⟨S256x64, .f32⟩
  | .local _ .vmem, ⟨7, _⟩ => ⟨S2x256x768, .f32⟩
  | .local _ .vmem, ⟨8, _⟩ => ⟨S2x256x768, .bf16⟩
  | .local _ .vmem, ⟨9, _⟩ => ⟨S2x256x768, .f32⟩
  | .local _ .vmem, ⟨10, _⟩ => ⟨S2x16x768, .bf16⟩
  | .local _ .vmem, ⟨11, _⟩ => ⟨S2x256x256, .bf16⟩
  | .local _ .vmem, ⟨12, _⟩ => ⟨S2x16x768, .f32⟩
  | .local _ .vmem, ⟨13, _⟩ => ⟨S16x2x16x768, .bf16⟩
  | .local _ .vmem, ⟨14, _⟩ => ⟨S16x2x16x768, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_161 : BitVec 32) : Fin 3 → Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v286 : BitVec 32 := Scalar.addi v2 c1_i32_161
  let c16_i32_162 : BitVec 32 := 16#32
  let v287 : BitVec 32 := Scalar.remsi v286 c16_i32_162
  let c16_i32_163 : BitVec 32 := 16#32
  let v288 : BitVec 32 := Scalar.muli v287 c16_i32_163
  let c0_i32_173 : BitVec 32 := 0#32
  ![0, v288.toNat, 0]
def k0_dev16 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_161 : BitVec 32 := 1#32
  let v286 : BitVec 32 := Scalar.addi v2 c1_i32_161
  let c16_i32_162 : BitVec 32 := 16#32
  let v287 : BitVec 32 := Scalar.remsi v286 c16_i32_162
  let c1_i32_167 : BitVec 32 := 1#32
  let v289 : BitVec 32 := Scalar.muli v287 c1_i32_167
  let v290 : BitVec 32 := Scalar.addi c0_i32_168 v289
  v290.toNat
def k0_dev17 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_174 : BitVec 32 := 2#32
  let v298 : BitVec 32 := Scalar.addi v2 c2_i32_174
  let c16_i32_175 : BitVec 32 := 16#32
  let v299 : BitVec 32 := Scalar.remsi v298 c16_i32_175
  let c1_i32_180 : BitVec 32 := 1#32
  let v301 : BitVec 32 := Scalar.muli v299 c1_i32_180
  let v302 : BitVec 32 := Scalar.addi c0_i32_181 v301
  v302.toNat
def k0_dev18 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_187 : BitVec 32 := 3#32
  let v310 : BitVec 32 := Scalar.addi v2 c3_i32_187
  let c16_i32_188 : BitVec 32 := 16#32
  let v311 : BitVec 32 := Scalar.remsi v310 c16_i32_188
  let c1_i32_193 : BitVec 32 := 1#32
  let v313 : BitVec 32 := Scalar.muli v311 c1_i32_193
  let v314 : BitVec 32 := Scalar.addi c0_i32_194 v313
  v314.toNat
def k0_dev19 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_200 : BitVec 32 := 4#32
  let v322 : BitVec 32 := Scalar.addi v2 c4_i32_200
  let c16_i32_201 : BitVec 32 := 16#32
  let v323 : BitVec 32 := Scalar.remsi v322 c16_i32_201
  let c1_i32_206 : BitVec 32 := 1#32
  let v325 : BitVec 32 := Scalar.muli v323 c1_i32_206
  let v326 : BitVec 32 := Scalar.addi c0_i32_207 v325
  v326.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_213 : BitVec 32 := 5#32
  let v334 : BitVec 32 := Scalar.addi v2 c5_i32_213
  let c16_i32_214 : BitVec 32 := 16#32
  let v335 : BitVec 32 := Scalar.remsi v334 c16_i32_214
  let c1_i32_219 : BitVec 32 := 1#32
  let v337 : BitVec 32 := Scalar.muli v335 c1_i32_219
  let v338 : BitVec 32 := Scalar.addi c0_i32_220 v337
  v338.toNat
def k0_dev21 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_226 : BitVec 32 := 6#32
  let v346 : BitVec 32 := Scalar.addi v2 c6_i32_226
  let c16_i32_227 : BitVec 32 := 16#32
  let v347 : BitVec 32 := Scalar.remsi v346 c16_i32_227
  let c1_i32_232 : BitVec 32 := 1#32
  let v349 : BitVec 32 := Scalar.muli v347 c1_i32_232
  let v350 : BitVec 32 := Scalar.addi c0_i32_233 v349
  v350.toNat
def k0_dev22 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_239 : BitVec 32 := 7#32
  let v358 : BitVec 32 := Scalar.addi v2 c7_i32_239
  let c16_i32_240 : BitVec 32 := 16#32
  let v359 : BitVec 32 := Scalar.remsi v358 c16_i32_240
  let c1_i32_245 : BitVec 32 := 1#32
  let v361 : BitVec 32 := Scalar.muli v359 c1_i32_245
  let v362 : BitVec 32 := Scalar.addi c0_i32_246 v361
  v362.toNat
def k0_dev23 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_252 : BitVec 32 := 8#32
  let v370 : BitVec 32 := Scalar.addi v2 c8_i32_252
  let c16_i32_253 : BitVec 32 := 16#32
  let v371 : BitVec 32 := Scalar.remsi v370 c16_i32_253
  let c1_i32_258 : BitVec 32 := 1#32
  let v373 : BitVec 32 := Scalar.muli v371 c1_i32_258
  let v374 : BitVec 32 := Scalar.addi c0_i32_259 v373
  v374.toNat
def k0_dev24 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_265 : BitVec 32 := 9#32
  let v382 : BitVec 32 := Scalar.addi v2 c9_i32_265
  let c16_i32_266 : BitVec 32 := 16#32
  let v383 : BitVec 32 := Scalar.remsi v382 c16_i32_266
  let c1_i32_271 : BitVec 32 := 1#32
  let v385 : BitVec 32 := Scalar.muli v383 c1_i32_271
  let v386 : BitVec 32 := Scalar.addi c0_i32_272 v385
  v386.toNat
def k0_dev25 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_278 : BitVec 32 := 10#32
  let v394 : BitVec 32 := Scalar.addi v2 c10_i32_278
  let c16_i32_279 : BitVec 32 := 16#32
  let v395 : BitVec 32 := Scalar.remsi v394 c16_i32_279
  let c1_i32_284 : BitVec 32 := 1#32
  let v397 : BitVec 32 := Scalar.muli v395 c1_i32_284
  let v398 : BitVec 32 := Scalar.addi c0_i32_285 v397
  v398.toNat
def k0_dev26 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_291 : BitVec 32 := 11#32
  let v406 : BitVec 32 := Scalar.addi v2 c11_i32_291
  let c16_i32_292 : BitVec 32 := 16#32
  let v407 : BitVec 32 := Scalar.remsi v406 c16_i32_292
  let c1_i32_297 : BitVec 32 := 1#32
  let v409 : BitVec 32 := Scalar.muli v407 c1_i32_297
  let v410 : BitVec 32 := Scalar.addi c0_i32_298 v409
  v410.toNat
def k0_dev27 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_304 : BitVec 32 := 12#32
  let v418 : BitVec 32 := Scalar.addi v2 c12_i32_304
  let c16_i32_305 : BitVec 32 := 16#32
  let v419 : BitVec 32 := Scalar.remsi v418 c16_i32_305
  let c1_i32_310 : BitVec 32 := 1#32
  let v421 : BitVec 32 := Scalar.muli v419 c1_i32_310
  let v422 : BitVec 32 := Scalar.addi c0_i32_311 v421
  v422.toNat
def k0_dev28 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_317 : BitVec 32 := 13#32
  let v430 : BitVec 32 := Scalar.addi v2 c13_i32_317
  let c16_i32_318 : BitVec 32 := 16#32
  let v431 : BitVec 32 := Scalar.remsi v430 c16_i32_318
  let c1_i32_323 : BitVec 32 := 1#32
  let v433 : BitVec 32 := Scalar.muli v431 c1_i32_323
  let v434 : BitVec 32 := Scalar.addi c0_i32_324 v433
  v434.toNat
def k0_dev29 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_330 : BitVec 32 := 14#32
  let v442 : BitVec 32 := Scalar.addi v2 c14_i32_330
  let c16_i32_331 : BitVec 32 := 16#32
  let v443 : BitVec 32 := Scalar.remsi v442 c16_i32_331
  let c1_i32_336 : BitVec 32 := 1#32
  let v445 : BitVec 32 := Scalar.muli v443 c1_i32_336
  let v446 : BitVec 32 := Scalar.addi c0_i32_337 v445
  v446.toNat
def k0_dev30 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_343 : BitVec 32 := 15#32
  let v454 : BitVec 32 := Scalar.addi v2 c15_i32_343
  let c16_i32_344 : BitVec 32 := 16#32
  let v455 : BitVec 32 := Scalar.remsi v454 c16_i32_344
  let c1_i32_349 : BitVec 32 := 1#32
  let v457 : BitVec 32 := Scalar.muli v455 c1_i32_349
  let v458 : BitVec 32 := Scalar.addi c0_i32_350 v457
  v458.toNat
def k0_off2 (d0 : Dev nD) : Fin 3 → Nat :=
  let c0_357 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_356 : BitVec 32 := 16#32
  let v466 : BitVec 32 := Scalar.muli v2 c16_i32_356
  let v467 : Index := Scalar.indexCast v466
  let c0_358 : Index := 0#32
  ![0, v467.toNat, 0]
def k0_off3 (d0 : Dev nD) : Fin 3 → Nat :=
  let c1_363 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_362 : BitVec 32 := 16#32
  let v473 : BitVec 32 := Scalar.muli v2 c16_i32_362
  let v474 : Index := Scalar.indexCast v473
  let c0_364 : Index := 0#32
  ![1, v474.toNat, 0]
def k0_off4 (d0 : Dev nD) : Fin 3 → Nat :=
  let c0_661 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_660 : BitVec 32 := 16#32
  let v710 : BitVec 32 := Scalar.muli v2 c16_i32_660
  let v711 : Index := Scalar.indexCast v710
  let c0_662 : Index := 0#32
  ![0, v711.toNat, 0]
def k0_dev31 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_663 : BitVec 32 := 1#32
  let v713 : BitVec 32 := Scalar.addi v2 c1_i32_663
  let c16_i32_664 : BitVec 32 := 16#32
  let v714 : BitVec 32 := Scalar.remsi v713 c16_i32_664
  let c1_i32_668 : BitVec 32 := 1#32
  let v715 : BitVec 32 := Scalar.muli v714 c1_i32_668
  let v716 : BitVec 32 := Scalar.addi c0_i32_669 v715
  v716.toNat
def k0_dev32 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_673 : BitVec 32 := 2#32
  let v723 : BitVec 32 := Scalar.addi v2 c2_i32_673
  let c16_i32_674 : BitVec 32 := 16#32
  let v724 : BitVec 32 := Scalar.remsi v723 c16_i32_674
  let c1_i32_678 : BitVec 32 := 1#32
  let v725 : BitVec 32 := Scalar.muli v724 c1_i32_678
  let v726 : BitVec 32 := Scalar.addi c0_i32_679 v725
  v726.toNat
def k0_dev33 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_683 : BitVec 32 := 3#32
  let v733 : BitVec 32 := Scalar.addi v2 c3_i32_683
  let c16_i32_684 : BitVec 32 := 16#32
  let v734 : BitVec 32 := Scalar.remsi v733 c16_i32_684
  let c1_i32_688 : BitVec 32 := 1#32
  let v735 : BitVec 32 := Scalar.muli v734 c1_i32_688
  let v736 : BitVec 32 := Scalar.addi c0_i32_689 v735
  v736.toNat
def k0_dev34 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_693 : BitVec 32 := 4#32
  let v743 : BitVec 32 := Scalar.addi v2 c4_i32_693
  let c16_i32_694 : BitVec 32 := 16#32
  let v744 : BitVec 32 := Scalar.remsi v743 c16_i32_694
  let c1_i32_698 : BitVec 32 := 1#32
  let v745 : BitVec 32 := Scalar.muli v744 c1_i32_698
  let v746 : BitVec 32 := Scalar.addi c0_i32_699 v745
  v746.toNat
def k0_dev35 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_703 : BitVec 32 := 5#32
  let v753 : BitVec 32 := Scalar.addi v2 c5_i32_703
  let c16_i32_704 : BitVec 32 := 16#32
  let v754 : BitVec 32 := Scalar.remsi v753 c16_i32_704
  let c1_i32_708 : BitVec 32 := 1#32
  let v755 : BitVec 32 := Scalar.muli v754 c1_i32_708
  let v756 : BitVec 32 := Scalar.addi c0_i32_709 v755
  v756.toNat
def k0_dev36 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_713 : BitVec 32 := 6#32
  let v763 : BitVec 32 := Scalar.addi v2 c6_i32_713
  let c16_i32_714 : BitVec 32 := 16#32
  let v764 : BitVec 32 := Scalar.remsi v763 c16_i32_714
  let c1_i32_718 : BitVec 32 := 1#32
  let v765 : BitVec 32 := Scalar.muli v764 c1_i32_718
  let v766 : BitVec 32 := Scalar.addi c0_i32_719 v765
  v766.toNat
def k0_dev37 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_723 : BitVec 32 := 7#32
  let v773 : BitVec 32 := Scalar.addi v2 c7_i32_723
  let c16_i32_724 : BitVec 32 := 16#32
  let v774 : BitVec 32 := Scalar.remsi v773 c16_i32_724
  let c1_i32_728 : BitVec 32 := 1#32
  let v775 : BitVec 32 := Scalar.muli v774 c1_i32_728
  let v776 : BitVec 32 := Scalar.addi c0_i32_729 v775
  v776.toNat
def k0_dev38 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_733 : BitVec 32 := 8#32
  let v783 : BitVec 32 := Scalar.addi v2 c8_i32_733
  let c16_i32_734 : BitVec 32 := 16#32
  let v784 : BitVec 32 := Scalar.remsi v783 c16_i32_734
  let c1_i32_738 : BitVec 32 := 1#32
  let v785 : BitVec 32 := Scalar.muli v784 c1_i32_738
  let v786 : BitVec 32 := Scalar.addi c0_i32_739 v785
  v786.toNat
def k0_dev39 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_743 : BitVec 32 := 9#32
  let v793 : BitVec 32 := Scalar.addi v2 c9_i32_743
  let c16_i32_744 : BitVec 32 := 16#32
  let v794 : BitVec 32 := Scalar.remsi v793 c16_i32_744
  let c1_i32_748 : BitVec 32 := 1#32
  let v795 : BitVec 32 := Scalar.muli v794 c1_i32_748
  let v796 : BitVec 32 := Scalar.addi c0_i32_749 v795
  v796.toNat
def k0_dev40 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_753 : BitVec 32 := 10#32
  let v803 : BitVec 32 := Scalar.addi v2 c10_i32_753
  let c16_i32_754 : BitVec 32 := 16#32
  let v804 : BitVec 32 := Scalar.remsi v803 c16_i32_754
  let c1_i32_758 : BitVec 32 := 1#32
  let v805 : BitVec 32 := Scalar.muli v804 c1_i32_758
  let v806 : BitVec 32 := Scalar.addi c0_i32_759 v805
  v806.toNat
def k0_dev41 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_763 : BitVec 32 := 11#32
  let v813 : BitVec 32 := Scalar.addi v2 c11_i32_763
  let c16_i32_764 : BitVec 32 := 16#32
  let v814 : BitVec 32 := Scalar.remsi v813 c16_i32_764
  let c1_i32_768 : BitVec 32 := 1#32
  let v815 : BitVec 32 := Scalar.muli v814 c1_i32_768
  let v816 : BitVec 32 := Scalar.addi c0_i32_769 v815
  v816.toNat
def k0_dev42 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_773 : BitVec 32 := 12#32
  let v823 : BitVec 32 := Scalar.addi v2 c12_i32_773
  let c16_i32_774 : BitVec 32 := 16#32
  let v824 : BitVec 32 := Scalar.remsi v823 c16_i32_774
  let c1_i32_778 : BitVec 32 := 1#32
  let v825 : BitVec 32 := Scalar.muli v824 c1_i32_778
  let v826 : BitVec 32 := Scalar.addi c0_i32_779 v825
  v826.toNat
def k0_dev43 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_783 : BitVec 32 := 13#32
  let v833 : BitVec 32 := Scalar.addi v2 c13_i32_783
  let c16_i32_784 : BitVec 32 := 16#32
  let v834 : BitVec 32 := Scalar.remsi v833 c16_i32_784
  let c1_i32_788 : BitVec 32 := 1#32
  let v835 : BitVec 32 := Scalar.muli v834 c1_i32_788
  let v836 : BitVec 32 := Scalar.addi c0_i32_789 v835
  v836.toNat
def k0_dev44 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_793 : BitVec 32 := 14#32
  let v843 : BitVec 32 := Scalar.addi v2 c14_i32_793
  let c16_i32_794 : BitVec 32 := 16#32
  let v844 : BitVec 32 := Scalar.remsi v843 c16_i32_794
  let c1_i32_798 : BitVec 32 := 1#32
  let v845 : BitVec 32 := Scalar.muli v844 c1_i32_798
  let v846 : BitVec 32 := Scalar.addi c0_i32_799 v845
  v846.toNat
def k0_dev45 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_803 : BitVec 32 := 15#32
  let v853 : BitVec 32 := Scalar.addi v2 c15_i32_803
  let c16_i32_804 : BitVec 32 := 16#32
  let v854 : BitVec 32 := Scalar.remsi v853 c16_i32_804
  let c1_i32_808 : BitVec 32 := 1#32
  let v855 : BitVec 32 := Scalar.muli v854 c1_i32_808
  let v856 : BitVec 32 := Scalar.addi c0_i32_809 v855
  v856.toNat
def k0_off5 (d0 : Dev nD) (c1_i32_821 : BitVec 32) : Fin 3 → Nat :=
  let c0_829 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v869 : BitVec 32 := Scalar.subi v2 c1_i32_821
  let c16_i32_822 : BitVec 32 := 16#32
  let v870 : BitVec 32 := Scalar.addi v869 c16_i32_822
  let c16_i32_823 : BitVec 32 := 16#32
  let v871 : BitVec 32 := Scalar.remsi v870 c16_i32_823
  let c16_i32_828 : BitVec 32 := 16#32
  let v875 : BitVec 32 := Scalar.muli v871 c16_i32_828
  let v876 : Index := Scalar.indexCast v875
  let c0_830 : Index := 0#32
  ![0, v876.toNat, 0]
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x256x768 : Shape := ⟨3, ![2, 256, 768]⟩
abbrev S768x4096 : Shape := ⟨2, ![768, 4096]⟩
abbrev S4096x768 : Shape := ⟨2, ![4096, 768]⟩
abbrev S256x64 : Shape := ⟨2, ![256, 64]⟩
abbrev S2x256x4096 : Shape := ⟨3, ![2, 256, 4096]⟩
abbrev S2x256x64x64 : Shape := ⟨4, ![2, 256, 64, 64]⟩
abbrev S2x256x64x32x2 : Shape := ⟨5, ![2, 256, 64, 32, 2]⟩
abbrev S2x256x64x32x1 : Shape := ⟨5, ![2, 256, 64, 32, 1]⟩
abbrev S2x256x64x32 : Shape := ⟨4, ![2, 256, 64, 32]⟩
abbrev S1x256x1x64 : Shape := ⟨4, ![1, 256, 1, 64]⟩
abbrev S2x64x256x256 : Shape := ⟨4, ![2, 64, 256, 256]⟩
abbrev S_ : Shape := ⟨0, ![]⟩
abbrev S2x64x256 : Shape := ⟨3, ![2, 64, 256]⟩
abbrev S2x64x256x1 : Shape := ⟨4, ![2, 64, 256, 1]⟩
abbrev S2x64x64x256 : Shape := ⟨4, ![2, 64, 64, 256]⟩

abbrev nBuf : Space → Nat
  | .hbm => 66
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x4096, .f32⟩
  | .hbm, ⟨2, _⟩ => ⟨S768x4096, .f32⟩
  | .hbm, ⟨3, _⟩ => ⟨S768x4096, .f32⟩
  | .hbm, ⟨4, _⟩ => ⟨S4096x768, .f32⟩
  | .hbm, ⟨5, _⟩ => ⟨S256x64, .f32⟩
  | .hbm, ⟨6, _⟩ => ⟨S256x64, .f32⟩
  | .hbm, ⟨7, _⟩ => ⟨S2x256x4096, .f32⟩
  | .hbm, ⟨8, _⟩ => ⟨S2x256x64x64, .f32⟩
  | .hbm, ⟨9, _⟩ => ⟨S2x256x64x32x2, .f32⟩
  | .hbm, ⟨10, _⟩ => ⟨S2x256x64x32x1, .f32⟩
  | .hbm, ⟨11, _⟩ => ⟨S2x256x64x32, .f32⟩
  | .hbm, ⟨12, _⟩ => ⟨S2x256x64x32, .f32⟩
  | .hbm, ⟨13, _⟩ => ⟨S2x256x64x32x1, .f32⟩
  | .hbm, ⟨14, _⟩ => ⟨S2x256x64x32, .f32⟩
  | .hbm, ⟨15, _⟩ => ⟨S2x256x64x32x1, .f32⟩
  | .hbm, ⟨16, _⟩ => ⟨S2x256x64x32x1, .f32⟩
  | .hbm, ⟨17, _⟩ => ⟨S2x256x64x32x2, .f32⟩
  | .hbm, ⟨18, _⟩ => ⟨S2x256x64x64, .f32⟩
  | .hbm, ⟨19, _⟩ => ⟨S1x256x1x64, .f32⟩
  | .hbm, ⟨20, _⟩ => ⟨S2x256x64x64, .f32⟩
  | .hbm, ⟨21, _⟩ => ⟨S2x256x64x64, .f32⟩
  | .hbm, ⟨22, _⟩ => ⟨S1x256x1x64, .f32⟩
  | .hbm, ⟨23, _⟩ => ⟨S2x256x64x64, .f32⟩
  | .hbm, ⟨24, _⟩ => ⟨S2x256x64x64, .f32⟩
  | .hbm, ⟨25, _⟩ => ⟨S2x256x64x64, .f32⟩
  | .hbm, ⟨26, _⟩ => ⟨S2x256x4096, .f32⟩
  | .hbm, ⟨27, _⟩ => ⟨S2x256x64x64, .f32⟩
  | .hbm, ⟨28, _⟩ => ⟨S2x256x64x32x2, .f32⟩
  | .hbm, ⟨29, _⟩ => ⟨S2x256x64x32x1, .f32⟩
  | .hbm, ⟨30, _⟩ => ⟨S2x256x64x32, .f32⟩
  | .hbm, ⟨31, _⟩ => ⟨S2x256x64x32, .f32⟩
  | .hbm, ⟨32, _⟩ => ⟨S2x256x64x32x1, .f32⟩
  | .hbm, ⟨33, _⟩ => ⟨S2x256x64x32, .f32⟩
  | .hbm, ⟨34, _⟩ => ⟨S2x256x64x32x1, .f32⟩
  | .hbm, ⟨35, _⟩ => ⟨S2x256x64x32x1, .f32⟩
  | .hbm, ⟨36, _⟩ => ⟨S2x256x64x32x2, .f32⟩
  | .hbm, ⟨37, _⟩ => ⟨S2x256x64x64, .f32⟩
  | .hbm, ⟨38, _⟩ => ⟨S1x256x1x64, .f32⟩
  | .hbm, ⟨39, _⟩ => ⟨S2x256x64x64, .f32⟩
  | .hbm, ⟨40, _⟩ => ⟨S2x256x64x64, .f32⟩
  | .hbm, ⟨41, _⟩ => ⟨S1x256x1x64, .f32⟩
  | .hbm, ⟨42, _⟩ => ⟨S2x256x64x64, .f32⟩
  | .hbm, ⟨43, _⟩ => ⟨S2x256x64x64, .f32⟩
  | .hbm, ⟨44, _⟩ => ⟨S2x256x64x64, .f32⟩
  | .hbm, ⟨45, _⟩ => ⟨S2x256x4096, .f32⟩
  | .hbm, ⟨46, _⟩ => ⟨S2x256x64x64, .f32⟩
  | .hbm, ⟨47, _⟩ => ⟨S2x64x256x256, .f32⟩
  | .hbm, ⟨48, _⟩ => ⟨S_, .f32⟩
  | .hbm, ⟨49, _⟩ => ⟨S2x64x256x256, .f32⟩
  | .hbm, ⟨50, _⟩ => ⟨S2x64x256x256, .f32⟩
  | .hbm, ⟨51, _⟩ => ⟨S_, .f32⟩
  | .hbm, ⟨52, _⟩ => ⟨S2x64x256, .f32⟩
  | .hbm, ⟨53, _⟩ => ⟨S2x64x256x1, .f32⟩
  | .hbm, ⟨54, _⟩ => ⟨S2x64x256x256, .f32⟩
  | .hbm, ⟨55, _⟩ => ⟨S2x64x256x256, .f32⟩
  | .hbm, ⟨56, _⟩ => ⟨S2x64x256x256, .f32⟩
  | .hbm, ⟨57, _⟩ => ⟨S_, .f32⟩
  | .hbm, ⟨58, _⟩ => ⟨S2x64x256, .f32⟩
  | .hbm, ⟨59, _⟩ => ⟨S2x64x256x1, .f32⟩
  | .hbm, ⟨60, _⟩ => ⟨S2x64x256x256, .f32⟩
  | .hbm, ⟨61, _⟩ => ⟨S2x64x256x256, .f32⟩
  | .hbm, ⟨62, _⟩ => ⟨S2x64x64x256, .f32⟩
  | .hbm, ⟨63, _⟩ => ⟨S2x256x64x64, .f32⟩
  | .hbm, ⟨64, _⟩ => ⟨S2x256x4096, .f32⟩
  | .hbm, ⟨65, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst : Ref sig .tc := ⟨.hbm, 48, rfl⟩
abbrev main_v41 : Ref sig .tc := ⟨.hbm, 49, rfl⟩
abbrev main_v42 : Ref sig .tc := ⟨.hbm, 50, rfl⟩
abbrev main_cst_0 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_1 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Proof.Proto.lean ====
/-
The protocol between the sixteen devices, stated under the rounds library with ONE round per semaphore cell, for any
contents the devices exchange: `P d e` is the rows of chunk `e` of device `d`'s partial product, `R d` the chunk `d`
device `d` has reduced.

Every device `c` addresses, for `k = 1 … 15`, the device `k` places after it (`fwd c k`), which is where these cells live:

* the barrier cell of `p` has fifteen duties of one unit, `j = 1 … 15`: duty `j` is paid by the device `fwd p j`, by its
  signal number `16 − j`, and hands `p` the two landing slots number `j` of `fwd p j` — which are exactly the slots `p`
  copies into with its transfers number `j`;
* the receive cells number `k` of the reduce-scatter and of the all-gather on `p` have one duty each, paid by `bwd p k`'s
  transfer number `k`, and hand `p` its slot `k` holding `P (bwd p k) p`, or `R (bwd p k)`;
* the send cells number `k` have one duty each, paid by the device itself when its transfer leaves, and hand its source back:
  the chunk of the partial product, or the `k`-th share of the reduced chunk (fifteen transfers read it at once).

Cells number 0 of the four arrays are never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline library's copy and the exchange's, whose duties are numbered -/

abbrev UX : Type := URounds (GSem nD τ sig) (Fin 16)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The sixteen devices in a circle -/

/-- The device `k` places after `c`, -/
def fwd (c : Dev nD) (k : Fin 16) : Dev nD := ⟨(c.val + k.val) % 16, Nat.mod_lt _ (by decide)⟩
/-- the device `k` places before, -/
def bwd (c : Dev nD) (k : Fin 16) : Dev nD := ⟨(c.val + 16 - k.val) % 16, Nat.mod_lt _ (by decide)⟩
/-- and the number of places that complete `k` to a whole turn. -/
def neg (k : Fin 16) : Fin 16 := ⟨(16 - k.val) % 16, Nat.mod_lt _ (by decide)⟩

theorem bwd_fwd (c : Dev nD) (k : Fin 16) : bwd (fwd c k) k = c := by revert c k; decide
theorem fwd_bwd (c : Dev nD) (k : Fin 16) : fwd (bwd c k) k = c := by revert c k; decide
theorem fwd_neg (c : Dev nD) (k : Fin 16) : fwd (fwd c k) (neg k) = c := by revert c k; decide
theorem neg_neg' (k : Fin 16) : neg (neg k) = k := by revert k; decide
theorem fwd_eq_bwd_neg (c : Dev nD) (k : Fin 16) : fwd c (neg k) = bwd c k := by revert c k; decide
theorem fwd_zero (c : Dev nD) : fwd c 0 = c := by revert c; decide
theorem fwd_inj_right (c : Dev nD) {j k : Fin 16} : Iff (fwd c j = fwd c k) (j = k) := by revert c j k; decide

/-- Turning the circle by `k` places, as a permutation of the devices. -/
def turn (k : Fin 16) : Dev nD ≃ Dev nD := ⟨fun c => fwd c k, fun c => bwd c k, fun c => bwd_fwd c k, fun c => fwd_bwd c k⟩

/-! ## The numbers still to do, and done -/

/-- The numbers from `n` on. -/
def rem (n : ℕ) : Finset (Fin 16) := Finset.univ.filter fun k => n ≤ k.val
/-- The numbers from 1 up to `n`. -/
def don (n : ℕ) : Finset (Fin 16) := Finset.univ.filter fun k => 1 ≤ k.val ∧ k.val < n

theorem rem_step {n : ℕ} (h : n < 16) : rem n = insert ⟨n, h⟩ (rem (n + 1)) := by
  ext k; simp only [rem, Finset.mem_filter, Finset.mem_univ, true_and, Finset.mem_insert, Fin.ext_iff]; omega
theorem not_mem_rem {n : ℕ} (h : n < 16) : (⟨n, h⟩ : Fin 16) ∉ rem (n + 1) := by
  simp only [rem, Finset.mem_filter, Finset.mem_univ, true_and]; omega
theorem don_step {n : ℕ} (h1 : 1 ≤ n) (h : n < 16) : don (n + 1) = insert ⟨n, h⟩ (don n) := by
  ext k; simp only [don, Finset.mem_filter, Finset.mem_univ, true_and, Finset.mem_insert, Fin.ext_iff]; omega
theorem not_mem_don {n : ℕ} (h : n < 16) : (⟨n, h⟩ : Fin 16) ∉ don n := by
  simp only [don, Finset.mem_filter, Finset.mem_univ, true_and]; omega
theorem rem_end : rem 16 = ∅ := by decide
theorem don_one : don 1 = ∅ := by decide
theorem don_end : don 16 = rem 1 := by decide
theorem univ_eq_rem : (Finset.univ : Finset (Fin 16)) = insert 0 (rem 1) := by decide
theorem zero_not_mem_rem : (0 : Fin 16) ∉ rem 1 := by decide
theorem rem_one_eq : rem 1 = Finset.univ.erase 0 := by decide
theorem rem_neg : (rem 1).map ⟨neg, fun a b h => by rw [← neg_neg' a, h, neg_neg']⟩ = rem 1 := by decide

theorem sep_rem {n : ℕ} (h : n < 16) (Φ : Fin 16 → sProp 𝕄) : bigSep (rem n) Φ = iprop(Φ ⟨n, h⟩ ∗ bigSep (rem (n + 1)) Φ) := by
  rw [rem_step h, bigSep_insert (not_mem_rem h)]; rfl
theorem sep_don {n : ℕ} (h1 : 1 ≤ n) (h : n < 16) (Φ : Fin 16 → sProp 𝕄) : bigSep (don (n + 1)) Φ = iprop(Φ ⟨n, h⟩ ∗ bigSep (don n) Φ) := by
  rw [don_step h1 h, bigSep_insert (not_mem_don h)]; rfl
theorem sep_rem_end (Φ : Fin 16 → sProp 𝕄) : bigSep (rem 16) Φ = iprop(emp) := by rw [rem_end, bigSep_empty]; rfl
theorem sep_don_one (Φ : Fin 16 → sProp 𝕄) : bigSep (don 1) Φ = iprop(emp) := by rw [don_one, bigSep_empty]; rfl

/-! ## The memrefs and cells -/

abbrev parM : Memref sig .tc .vmem S2x256x768 .bf16 := Memref.whole cc0_scratch0
abbrev redM : Memref sig .tc .vmem S2x16x768 .bf16 := Memref.whole cc0_scratch2
abbrev rsM : Memref sig .tc .vmem S16x2x16x768 .bf16 := Memref.whole cc0_scratch5
abbrev agM : Memref sig .tc .vmem S16x2x16x768 .bf16 := Memref.whole cc0_scratch6

theorem slot_inb (k : Fin 16) : ∀ a, (![k.val, 0, 0, 0] : Fin 4 → ℕ) a + S1x2x16x768.size a ≤ S16x2x16x768.size a := by revert k; decide
theorem chunk_inb (e : Dev nD) : ∀ a, (![0, 16 * e.val, 0] : Fin 3 → ℕ) a + S2x16x768.size a ≤ S2x256x768.size a := by revert e; decide

abbrev slotR (k : Fin 16) : Rect S16x2x16x768 := Rect.unit (s := S16x2x16x768) ![k.val, 0, 0, 0] S1x2x16x768.size (slot_inb k)
abbrev chunkR (e : Dev nD) : Rect S2x256x768 := Rect.unit (s := S2x256x768) ![0, 16 * e.val, 0] S2x16x768.size (chunk_inb e)

/-- Landing slot `k` of the reduce-scatter, and of the all-gather. -/
abbrev rsSlot (k : Fin 16) : Memref sig .tc .vmem S2x16x768 .bf16 := (rsM.slice (slotR k) (fun _ => rfl)).squeeze S2x16x768 squeezes_S1x2x16x768_S2x16x768
abbrev agSlot (k : Fin 16) : Memref sig .tc .vmem S2x16x768 .bf16 := (agM.slice (slotR k) (fun _ => rfl)).squeeze S2x16x768 squeezes_S1x2x16x768_S2x16x768
/-- The rows of chunk `e` of the partial product. -/
abbrev parChunk (e : Dev nD) : Memref sig .tc .vmem S2x16x768 .bf16 := parM.slice (chunkR e) (fun _ => rfl)

abbrev barS : Sem sig := (SemArray.scalar (sig.barrier 0 rfl) : Sems sig S_).sem
/-- Semaphore `k` of array `a`: the reduce-scatter's send and receive semaphores, then the all-gather's. -/
def dsem (a : Fin 4) (k : Fin 16) : DmaSem sig := ⟨8 + 16 * a.val + k.val, by have := a.isLt; have := k.isLt; show _ < 72; omega⟩

abbrev barCell (c : Dev nD) : GSem nD τ sig := ((c : Thread nD τ), .reg barS)
abbrev xCell (a : Fin 4) (k : Fin 16) (c : Dev nD) : GSem nD τ sig := ((c : Thread nD τ), .dma (dsem a k))

/-- The credit of one transfer. -/
abbrev N : ℕ := (redM : Memref sig .tc .vmem S2x16x768 .bf16).view.dmaCredit
theorem N_pos : 0 < N := View.dmaCredit_pos _ (by decide)
theorem credit_rs (k : Fin 16) : (rsSlot k).view.dmaCredit = N := rfl
theorem credit_ag (k : Fin 16) : (agSlot k).view.dmaCredit = N := rfl
theorem credit_par (e : Dev nD) : (parChunk e).view.dmaCredit = N := rfl

/-- Which transfer's cell a semaphore is: none for the barrier's. -/
def decode : SemLoc sig → Option (Fin 4 × Fin 16)
  | .reg _ => none
  | .dma q => if h : 8 ≤ q.val then
      some (⟨(q.val - 8) / 16, by have : q.val < 72 := q.isLt; omega⟩, ⟨(q.val - 8) % 16, Nat.mod_lt _ (by decide)⟩)
    else none

theorem decode_dsem (a : Fin 4) (k : Fin 16) : decode (.dma (dsem a k)) = some (a, k) := by revert a k; decide
theorem decode_bar : decode (.reg barS) = none := rfl

theorem dsem_inj {a a' : Fin 4} {k k' : Fin 16} (h : (SemLoc.dma (dsem a k) : SemLoc sig) = .dma (dsem a' k')) : (a, k) = (a', k') := by
  have := congrArg decode h; rw [decode_dsem, decode_dsem] at this; exact Option.some.inj this
theorem dsem_ne_bar (a : Fin 4) (k : Fin 16) : (SemLoc.dma (dsem a k) : SemLoc sig) ≠ .reg barS := fun h => by cases h

/-! ## The shares the fifteen transfers of the reduced chunk read it at -/

/-- What is left of the full share after `n` halvings; transfer `k` reads at the left half of what `k` leave. -/
def restShare : ℕ → PosShare TreeShare
  | 0 => fullShare
  | n + 1 => (restShare n).right
abbrev partShare (k : ℕ) : PosShare TreeShare := (restShare k).left

/-! ## The schedule -/

variable (P : Dev nD → Dev nD → S2x16x768.Idx → Elt F .bf16) (R : Dev nD → S2x16x768.Idx → Elt F .bf16)

/-- Device `d`'s two landing slots number `j`, at any contents. -/
def slots (d : Dev nD) (j : Fin 16) : sProp 𝕄 :=
  iprop((∃ X, owns (d : Thread nD τ) (rsSlot j) fullShare X) ∗ (∃ X, owns (d : Thread nD τ) (agSlot j) fullShare X))

def parPts (c e : Dev nD) (X : S2x16x768.Idx → Elt F .bf16) : sProp 𝕄 := owns (c : Thread nD τ) (parChunk e) fullShare X
def redPts (c : Dev nD) (q : PosShare TreeShare) (X : S2x16x768.Idx → Elt F .bf16) : sProp 𝕄 := owns (c : Thread nD τ) redM q X
def rsPts (c : Dev nD) (k : Fin 16) (X : S2x16x768.Idx → Elt F .bf16) : sProp 𝕄 := owns (c : Thread nD τ) (rsSlot k) fullShare X
def agPts (c : Dev nD) (k : Fin 16) (X : S2x16x768.Idx → Elt F .bf16) : sProp 𝕄 := owns (c : Thread nD τ) (agSlot k) fullShare X

/-- What the cell of transfer number `k` hands device `c`. -/
def xPay (c : Dev nD) (a : Fin 4) (k : Fin 16) : sProp 𝕄 :=
  match a with
  | ⟨0, _⟩ => parPts c (fwd c k) (P c (fwd c k))
  | ⟨1, _⟩ => rsPts c k (P (bwd c k) c)
  | ⟨2, _⟩ => redPts c (partShare k.val) (R c)
  | ⟨_ + 3, _⟩ => agPts c k (R (bwd c k))

instance xPay_storable (c : Dev nD) (a : Fin 4) (k : Fin 16) : BI.Storable (upEmb : UEmb _ 𝕄) (xPay P R c a k) := by
  unfold xPay parPts redPts rsPts agPts
  split <;> infer_instance
instance slots_storable (d : Dev nD) (j : Fin 16) : BI.Storable (upEmb : UEmb _ 𝕄) (slots (F := F) d j) := by
  unfold slots; infer_instance

def duty (s : SemLoc sig) : Finset (Fin 16) :=
  match decode s with
  | none => rem 1
  | some (_, k) => if k = 0 then ∅ else {0}

def pay (c : Dev nD) (s : SemLoc sig) (d : Fin 16) : sProp 𝕄 :=
  match decode s with
  | none => slots (fwd c d) d
  | some (a, k) => xPay P R c a k

instance pay_storable (c : Dev nD) (s : SemLoc sig) (d : Fin 16) : BI.Storable (upEmb : UEmb _ 𝕄) (pay P R c s d) := by
  unfold pay; split <;> infer_instance

def Rd : Rounds.Schedule (GSem nD τ sig) (Fin 16) 𝕄 where
  duties g r := if r = 0 then duty g.2 else ∅
  unitless _ := False
  amount g _ _ := if (decode g.2).isNone then 1 else N
  payload g _ d := pay P R g.1.1 g.2 d
  amount_pos g _ _ _ := by
    by_cases h : (decode g.2).isNone
    · rw [if_pos h]; exact Nat.one_pos
    · rw [if_neg h]; exact N_pos

instance Rd_payload_storable (g : GSem nD τ sig) (r : ℕ) (d : Fin 16) :
    BI.Storable (upEmb : UEmb _ 𝕄) ((Rd (F := F) P R).payload g r d) := pay_storable P R _ _ _

theorem duties_bar (c : Dev nD) : (Rd (F := F) P R).duties (barCell c) 0 = rem 1 := rfl
theorem duties_x (c : Dev nD) (a : Fin 4) {k : Fin 16} (hk : k ≠ 0) : (Rd (F := F) P R).duties (xCell a k c) 0 = {0} := by
  show duty (.dma (dsem a k)) = {0}
  unfold duty; rw [decode_dsem]; exact if_neg hk
theorem duties_x0 (c : Dev nD) (a : Fin 4) (r : ℕ) : (Rd (F := F) P R).duties (xCell a 0 c) r = ∅ := by
  show (if r = 0 then duty (.dma (dsem a 0)) else ∅) = ∅
  unfold duty; rw [decode_dsem]; simp
theorem duties_later (g : GSem nD τ sig) : ∀ r, 1 ≤ r → (Rd (F := F) P R).duties g r = ∅ := fun r hr => if_neg (by omega)
theorem amount_bar (c : Dev nD) (d : Fin 16) : (Rd (F := F) P R).amount (barCell c) 0 d = 1 := rfl
theorem amount_x (c : Dev nD) (a : Fin 4) (k : Fin 16) (d : Fin 16) : (Rd (F := F) P R).amount (xCell a k c) 0 d = N := by
  show (if (decode (.dma (dsem a k))).isNone then 1 else N) = N
  rw [decode_dsem]; rfl
theorem payload_bar (c : Dev nD) (d : Fin 16) : (Rd (F := F) P R).payload (barCell c) 0 d = slots (fwd c d) d := rfl
theorem payload_x (c : Dev nD) (a : Fin 4) (k : Fin 16) (d : Fin 16) : (Rd (F := F) P R).payload (xCell a k c) 0 d = xPay P R c a k := by
  show pay P R c (.dma (dsem a k)) d = _
  unfold pay; rw [decode_dsem]
theorem expect_bar (c : Dev nD) : (Rd (F := F) P R).expect (barCell c) 0 = 15 := by
  unfold Schedule.expect Schedule.amountOf
  rw [duties_bar, Finset.sum_congr rfl fun d _ => amount_bar P R c d, Finset.sum_const, show (rem 1).card = 15 by decide, smul_eq_mul]
theorem expect_x (c : Dev nD) (a : Fin 4) {k : Fin 16} (hk : k ≠ 0) : (Rd (F := F) P R).expect (xCell a k c) 0 = N := by
  unfold Schedule.expect Schedule.amountOf; rw [duties_x P R c a hk, Finset.sum_singleton, amount_x]
theorem rest_x (c : Dev nD) (a : Fin 4) {k : Fin 16} (hk : k ≠ 0) :
    bigSep ((Rd (F := F) P R).duties (xCell a k c) 0 \ ∅) (fun d => (Rd (F := F) P R).payload (xCell a k c) 0 d) = xPay P R c a k := by
  rw [Finset.sdiff_empty, duties_x P R c a hk, bigSep_singleton, payload_x]
theorem rest_bar (c : Dev nD) :
    bigSep ((Rd (F := F) P R).duties (barCell c) 0 \ ∅) (fun d => (Rd (F := F) P R).payload (barCell c) 0 d)
      = bigSep (rem 1) fun j => slots (fwd c j) j := by
  rw [Finset.sdiff_empty, duties_bar]; rfl

/-! ## What a device owes, and the levels -/

/-- The units device `c` still owes the barrier cells of the devices number `n` and later, -/
def oBar (c : Dev nD) (n : ℕ) : CellTallies nD τ sig Unit := ∑ k ∈ rem n, tallyAt (barCell (fwd c k)) () 1
/-- and the credits it owes their receive cells of array `a`. -/
def oX (a : Fin 4) (c : Dev nD) (n : ℕ) : CellTallies nD τ sig Unit := ∑ k ∈ rem n, tallyAt (xCell a k (fwd c k)) () N
/-- All it owes at launch. -/
def O₀ (c : Dev nD) : CellTallies nD τ sig Unit := oX 1 c 1 + oX 3 c 1 + oBar c 1

theorem oBar_step (c : Dev nD) {n : ℕ} (h : n < 16) : oBar c n = oBar c (n + 1) + tallyAt (barCell (fwd c ⟨n, h⟩)) () 1 := by
  unfold oBar; rw [rem_step h, Finset.sum_insert (not_mem_rem h), add_comm]
theorem oX_step (a : Fin 4) (c : Dev nD) {n : ℕ} (h : n < 16) : oX a c n = oX a c (n + 1) + tallyAt (xCell a ⟨n, h⟩ (fwd c ⟨n, h⟩)) () N := by
  unfold oX; rw [rem_step h, Finset.sum_insert (not_mem_rem h), add_comm]
theorem oBar_end (c : Dev nD) : oBar c 16 = 0 := by unfold oBar; rw [rem_end, Finset.sum_empty]
theorem oX_end (a : Fin 4) (c : Dev nD) : oX a c 16 = 0 := by unfold oX; rw [rem_end, Finset.sum_empty]

/-- Levels are given on TensorCores only: the barrier at 1, the receive cells of the reduce-scatter at 2 and of the all-gather
    at 3, everything else at 0. -/
def L (g : GSem nD τ sig) : Finset Unit := if g.1.2 = .tc then {()} else ∅
def lvS : SemLoc sig → ℕ
  | .reg _ => 1
  | .dma q => match decode (.dma q) with
    | some (1, _) => 2
    | some (3, _) => 3
    | _ => 0
def lv (g : GSem nD τ sig) (_ : Unit) : ℕ := lvS g.2

theorem lv_x (a : Fin 4) (k : Fin 16) : lvS (.dma (dsem a k)) = if a = 1 then 2 else if a = 3 then 3 else 0 := by revert a k; decide
theorem L_of_ne (g : GSem nD τ sig) (h : g.1.2 ≠ .tc) : L g = ∅ := if_neg h

theorem oBar_pos {c : Dev nD} {n : ℕ} {g : GSem nD τ sig} {u : Unit} (h : 0 < oBar c n g u) : ∃ d, g = barCell d := by
  unfold oBar at h
  rw [Finset.sum_apply, Finsupp.finset_sum_apply] at h
  obtain ⟨k, -, hk⟩ := Finset.exists_ne_zero_of_sum_ne_zero h.ne'
  rw [tallyAt_apply] at hk
  exact ⟨_, (ite_ne_right_iff.mp hk).1.1⟩
theorem oX_pos {a : Fin 4} {c : Dev nD} {n : ℕ} {g : GSem nD τ sig} {u : Unit} (h : 0 < oX a c n g u) : ∃ d k, g = xCell a k d := by
  unfold oX at h
  rw [Finset.sum_apply, Finsupp.finset_sum_apply] at h
  obtain ⟨k, -, hk⟩ := Finset.exists_ne_zero_of_sum_ne_zero h.ne'
  rw [tallyAt_apply] at hk
  exact ⟨_, k, (ite_ne_right_iff.mp hk).1.1⟩

/-- What is owed lies on TensorCores, above the level `b`. -/
def Above (b : ℕ) (O : CellTallies nD τ sig Unit) : Prop := ∀ g u, 0 < O g u → g.1.2 = .tc ∧ b < lvS g.2
theorem Above.zero (b : ℕ) : Above b 0 := fun _ _ h => absurd h (Nat.lt_irrefl 0)
theorem Above.add {b : ℕ} {O O' : CellTallies nD τ sig Unit} (h : Above b O) (h' : Above b O') : Above b (O + O') := fun g u hg => by
  rw [Pi.add_apply, Finsupp.add_apply] at hg
  rcases Nat.add_pos_iff_pos_or_pos.mp hg with hg | hg
  · exact h g u hg
  · exact h' g u hg
theorem Above.bar (c : Dev nD) (n : ℕ) : Above 0 (oBar c n) := fun g u hg => by
  obtain ⟨d, rfl⟩ := oBar_pos hg; exact ⟨rfl, Nat.one_pos⟩
theorem Above.rs (c : Dev nD) (n : ℕ) : Above 1 (oX 1 c n) := fun g u hg => by
  obtain ⟨d, k, rfl⟩ := oX_pos hg; exact ⟨rfl, by rw [lv_x]; decide⟩
theorem Above.ag (c : Dev nD) (n : ℕ) : Above 2 (oX 3 c n) := fun g u hg => by
  obtain ⟨d, k, rfl⟩ := oX_pos hg; exact ⟨rfl, by rw [lv_x]; decide⟩
theorem Above.mono {b b' : ℕ} {O : CellTallies nD τ sig Unit} (h : Above b O) (hb : b' ≤ b) : Above b' O := fun g u hg =>
  ⟨(h g u hg).1, lt_of_le_of_lt hb (h g u hg).2⟩

theorem mayWait (c : Dev nD) (s : SemLoc sig) (O : CellTallies nD τ sig Unit) (hO : Above (lvS s) O) :
    (levAts L lv : sProp 𝕄) ⊢ MayWait (c : Thread nD τ) s () O :=
  Pipeline.mayWait_of_levAts (by unfold L; rw [if_pos rfl]; exact Finset.mem_singleton_self _) fun g u hg => by
    obtain ⟨h1, h2⟩ := hO g u hg
    exact ⟨by unfold L; rw [if_pos h1]; exact Finset.mem_singleton_self _, h2⟩

end Cert.AttnProof

end
-- ==== Proof.Steps.lean ====
/-
One rule per kind of step the kernel takes with another device, each at a symbolic transfer number: the fifteen entry
signals, the wait for the others' signals, the transfers of the two phases, the waits on their cells. What a device holds
between two steps is one assertion indexed by the number reached (`SigSt n`, `RsSt n`, …): the steps from `n` on still to do.
-/
module

public import proofs.«01_k».proof.Proof.Proto

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`'s TensorCore. -/
abbrev wpC (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A cell's name among a device's: the barrier's, or a transfer's. -/
abbrev CellIx : Type := Option (Fin 4 × Fin 16)
def csem : CellIx → SemLoc sig
  | none => .reg barS
  | some (a, k) => .dma (dsem a k)
abbrev gcell (ck : Dev nD × CellIx) : GSem nD τ sig := ((ck.1 : Thread nD τ), csem ck.2)

variable (P : Dev nD → Dev nD → S2x16x768.Idx → Elt F .bf16) (R : Dev nD → S2x16x768.Idx → Elt F .bf16)
variable (K : Dev nD × CellIx → ℕ)

/-- What every device knows: every cell's invariant, that every cell has reached round 0, the levels. -/
def recs : sProp 𝕄 :=
  iprop((bigSep Finset.univ fun ck : Dev nD × CellIx => cellInv EX (Rd P R) (K ck) (gcell ck))
    ∗ (bigSep Finset.univ fun ck : Dev nD × CellIx => reached EX (gcell ck) 0) ∗ levAts L lv)

instance recs_persistent : BI.Persistent (recs P R K) := by unfold recs; infer_instance

theorem recs_inv (ck : Dev nD × CellIx) : recs P R K ⊢ cellInv EX (Rd P R) (K ck) (gcell ck) := by
  have h : (bigSep Finset.univ fun ck : Dev nD × CellIx => (cellInv EX (Rd P R) (K ck) (gcell ck) : sProp 𝕄)) ⊢ cellInv EX (Rd P R) (K ck) (gcell ck) :=
    bigSep_elim (Finset.mem_univ ck)
  unfold recs
  iintro ⟨HI, -⟩
  iapply h $$ HI
theorem recs_reached (ck : Dev nD × CellIx) : recs P R K ⊢ reached EX (gcell ck) 0 := by
  have h : (bigSep Finset.univ fun ck : Dev nD × CellIx => (reached EX (gcell ck) 0 : sProp 𝕄)) ⊢ reached EX (gcell ck) 0 :=
    bigSep_elim (Finset.mem_univ ck)
  unfold recs
  iintro ⟨-, HR, -⟩
  iapply h $$ HR
theorem recs_mayWait (c : Dev nD) (s : SemLoc sig) (O : CellTallies nD τ sig Unit) (hO : Above (lvS s) O) :
    recs P R K ⊢ (MayWait (c : Thread nD τ) s () O : sProp 𝕄) := by
  have h := mayWait (F := F) c s O hO
  unfold recs
  iintro ⟨-, -, HL⟩
  iapply h $$ HL

/-- Device `c` owes `O`, whatever its waits have recorded. -/
def oweSt (c : Dev nD) (O : CellTallies nD τ sig Unit) : sProp 𝕄 := iprop(∃ W, owes (c : Thread nD τ) O W)

/-! ## The entry barrier -/

def sigItem (c : Dev nD) (k : Fin 16) : sProp 𝕄 := iprop(dutyTok EX (barCell (fwd c k)) 0 (neg k) ∗ slots c (neg k))
/-- Before signal `n`. -/
def SigSt (c : Dev nD) (n : ℕ) : sProp 𝕄 := iprop(oweSt c (oX 1 c 1 + oX 3 c 1 + oBar c n) ∗ bigSep (rem n) (sigItem c))

theorem neg_mem {n : ℕ} (h1 : 1 ≤ n) (h : n < 16) : neg ⟨n, h⟩ ∈ rem 1 := by
  simp only [rem, neg, Finset.mem_filter, Finset.mem_univ, true_and]; omega

/-- Signal `n`, to the device `n` places on: its landing slots number `16 − n` are lent to the devices that will fill them. -/
theorem sig_step (c : Dev nD) (n : ℕ) (h1 : 1 ≤ n) (h : n < 16) {dst : Dev nD} (hd : dst = fwd c ⟨n, h⟩) {k' : ℕ} (hk : k' = 1)
    {α : Type} {Q : α → sProp 𝕄} {k : PUnit → Prog (TpuEff nD τ sig (Elt F) Λ₀ .tc) α} :
    iprop(recs P R K ∗ SigSt c n)
      ⊢ iprop((SigSt c (n + 1) -∗ wpC c (k ⟨⟩) Q) -∗ wpC c (.op (.semSignal (dst : Thread nD τ) barS k') k) Q) := by
  subst hd hk
  unfold SigSt
  rw [sep_rem h (sigItem c)]
  unfold oweSt sigItem
  iintro ⟨#HR, ⟨%W, HO⟩, ⟨Htok, Hsl⟩, Hrest⟩ Hk
  iapply (Rounds.wp_signal 𝒱₀ EX (Rd P R) (c : Thread nD τ) none (dst := (fwd c ⟨n, h⟩ : Thread nD τ)) (κ := K (fwd c ⟨n, h⟩, none))
      (d := neg ⟨n, h⟩) (r := 0) (by rw [duties_bar]; exact neg_mem h1 h) (amount_bar P R _ _) () (O₀ := oX 1 c 1 + oX 3 c 1 + oBar c n) (oX 1 c 1 + oX 3 c 1 + oBar c (n + 1))
      (by rw [oBar_step c h, add_assoc, add_assoc, add_assoc]) (W := W))
    $$ [HO Htok Hsl]
  · isplitr; · iapply (recs_inv P R K (fwd c ⟨n, h⟩, none)); iexact HR
    isplitl [HO]; · iexact HO
    isplitl [Htok]; · iexact Htok
    isplitl [Hsl]; · rw [payload_bar, fwd_neg]; iexact Hsl
    iapply (recs_reached P R K (fwd c ⟨n, h⟩, none)); iexact HR
  iintro HO
  iapply Hk
  isplitl [HO]; · iexists W; iexact HO
  iexact Hrest

/-- The wait for the fifteen others' signals: the landing slots the device's own transfers go to. -/
theorem bar_step (c : Dev nD) {k' : ℕ} (hk : k' = 15) {α : Type} {Q : α → sProp 𝕄} {k : PUnit → Prog (TpuEff nD τ sig (Elt F) Λ₀ .tc) α} :
    iprop(recs P R K ∗ SigSt c 16 ∗ cred (tallyAt (barCell c) () 15) ∗ atPos EX (barCell c) 0 ∅ 0)
      ⊢ iprop(((oweSt c (oX 1 c 1 + oX 3 c 1) ∗ atPos EX (barCell c) 1 ∅ 0 ∗ bigSep (rem 1) fun j => slots (fwd c j) j) -∗ wpC c (k ⟨⟩) Q)
          -∗ wpC c (.op (.semWait barS k') k) Q) := by
  subst hk
  unfold SigSt oweSt
  rw [oBar_end, add_zero]
  iintro ⟨#HR, ⟨⟨%W, HO⟩, -⟩, Hc, Hat⟩ Hk
  iapply (Rounds.wp_wait_rest_token 𝒱₀ EX (Rd P R) (c : Thread nD τ) none (κ := K (c, none))
      (wpE_semWait_eq 𝒱₀ (c : Thread nD τ) none Set.univ) (Set.mem_univ _) () (O := oX 1 c 1 + oX 3 c 1) (W := W) (R := 0) (m := 0) (T := ∅)
      (by rw [expect_bar])) $$ [Hc HO Hat]
  · isplitr; · iapply (recs_inv P R K (c, none)); iexact HR
    isplitl [Hc]; · iexact Hc
    isplitl [HO]; · iexact HO
    isplitr
    · iapply (recs_mayWait P R K c (.reg barS) _ (((Above.rs c 1).mono (by decide)).add ((Above.ag c 1).mono (by decide))))
      iexact HR
    iexact Hat
  iintro ⟨HO, Hat, -, Hpay⟩
  ihave Hp := (Entails.of_eq (rest_bar P R c)) $$ Hpay
  iapply Hk
  isplitl [HO]; · iexists _; iexact HO
  isplitl [Hat]; · iexact Hat
  iexact Hp

/-! ## The transfers -/

/-- Before transfer `n` of the reduce-scatter: the chunks and slots of the transfers to come, the send credits of those started. -/
def rsItem (c : Dev nD) (k : Fin 16) : sProp 𝕄 :=
  iprop(parPts c (fwd c k) (P c (fwd c k)) ∗ (∃ X, rsPts (fwd c k) k X) ∗ dutyTok EX (xCell 0 k c) 0 0 ∗ dutyTok EX (xCell 1 k (fwd c k)) 0 0)
def credItem (a : Fin 4) (c : Dev nD) (k : Fin 16) : sProp 𝕄 := cred (tallyAt (xCell a k c) () N)
def RsSt (c : Dev nD) (n : ℕ) : sProp 𝕄 :=
  iprop(oweSt c (oX 1 c n + oX 3 c 1) ∗ bigSep (rem n) (rsItem P c) ∗ bigSep (don n) (credItem 0 c))

theorem ne_zero_of {n : ℕ} (h1 : 1 ≤ n) (h : n < 16) : (⟨n, h⟩ : Fin 16) ≠ 0 := fun e => by
  have : n = 0 := congrArg Fin.val e
  omega

theorem rs_step (c : Dev nD) (n : ℕ) (h1 : 1 ≤ n) (h : n < 16) {off : Fin 3 → ℕ} (hoff : off = ![0, 16 * (fwd c ⟨n, h⟩).val, 0])
    {inb : ∀ a, off a + S2x16x768.size a ≤ S2x256x768.size a} {d : Dev nD} (hd : d = fwd c ⟨n, h⟩)
    {dst : Memref sig .tc .vmem S2x16x768 .bf16} (hdst : dst = rsSlot ⟨n, h⟩)
    {sS sem : DmaSem sig} (hS : sS = dsem 0 ⟨n, h⟩) (hsm : sem = dsem 1 ⟨n, h⟩)
    {hu : ∀ a, (Rect.unit (s := S2x256x768) off S2x16x768.size inb).stride a = 1}
    {hsc : (dst : Memref sig (Dev.tc d : Thread nD τ).2.kind .vmem S2x16x768 .bf16).view.ref.isScScratch = false}
    {hx : (parM.slice (Rect.unit (s := S2x256x768) off S2x16x768.size inb) hu).view.WordExact} {hy : dst.view.WordExact}
    {hsem : DmaTarget.Typed .vmem (.dma sem) (.remote (Dev.tc d : Thread nD τ) (dst : Memref sig (Dev.tc d : Thread nD τ).2.kind .vmem S2x16x768 .bf16) (.dma sS) hsc)}
    {α : Type} {Q : α → sProp 𝕄} {k : PUnit → Prog (TpuEff nD τ sig (Elt F) Λ₀ .tc) α} :
    iprop(recs P R K ∗ RsSt P c n)
      ⊢ iprop((RsSt P c (n + 1) -∗ wpC c (k ⟨⟩) Q)
          -∗ wpC c (.op (.enqueueDma (parM.slice (Rect.unit (s := S2x256x768) off S2x16x768.size inb) hu)
              (.remote (Dev.tc d : Thread nD τ) dst (.dma sS) hsc) (.dma sem) hx hy hsem) k) Q) := by
  subst hoff hd hdst hS hsm
  unfold RsSt
  rw [sep_rem h (rsItem P c), sep_don h1 h (credItem 0 c)]
  unfold oweSt rsItem credItem parPts rsPts owns
  iintro ⟨#HR, ⟨%W, HO⟩, ⟨⟨⟨%fs, %hfs, Hs⟩, ⟨%X, %fd, -, Hd⟩, Ht0, Ht1⟩, Hrest⟩, Hdon⟩ Hk
  iapply (Rounds.wp_send_pointsTo 𝒱₀ EX (Rd P R) (c : Thread nD τ) none (c' := (fwd c ⟨n, h⟩ : Thread nD τ)) (src := parChunk (fwd c ⟨n, h⟩)) (dst := rsSlot ⟨n, h⟩) (κ₁ := K (c, some (0, ⟨n, h⟩))) (κ₂ := K (fwd c ⟨n, h⟩, some (1, ⟨n, h⟩)))
      (r₁ := 0) (r₂ := 0) (d₁ := 0) (d₂ := 0) (fs := fs) (fd := fd) (q := fullShare)
      (by rw [duties_x P R c 0 (ne_zero_of h1 h)]; exact Finset.mem_singleton_self _)
      (by rw [duties_x P R _ 1 (ne_zero_of h1 h)]; exact Finset.mem_singleton_self _)
      () () N rfl (amount_x P R c 0 _ 0) (amount_x P R _ 1 _ 0) (O₀ := oX 1 c n + oX 3 c 1) (oX 1 c (n + 1) + oX 3 c 1)
      (by rw [oX_step 1 c h, add_right_comm]) (W := W)
      (by
        rw [payload_x]; unfold xPay parPts
        rw [← hfs]; exact owns_intro (c : Thread nD τ) (parChunk (fwd c ⟨n, h⟩)) fullShare fs)
      (by
        rw [payload_x]; unfold xPay rsPts
        refine (owns_intro (fwd c ⟨n, h⟩ : Thread nD τ) (rsSlot ⟨n, h⟩) fullShare _).trans (Entails.of_eq ?_)
        rw [View.read_write_univ, hfs, bwd_fwd]))
    $$ [HO Hs Hd Ht0 Ht1]
  · isplitr; · iapply (recs_inv P R K (c, some (0, ⟨n, h⟩))); iexact HR
    isplitr; · iapply (recs_inv P R K (fwd c ⟨n, h⟩, some (1, ⟨n, h⟩))); iexact HR
    isplitl [Hs]; · iexact Hs
    isplitl [Hd]; · iexact Hd
    isplitl [HO]; · iexact HO
    isplitl [Ht0]; · iexact Ht0
    isplitr; · iapply (recs_reached P R K (c, some (0, ⟨n, h⟩))); iexact HR
    isplitl [Ht1]; · iexact Ht1
    iapply (recs_reached P R K (fwd c ⟨n, h⟩, some (1, ⟨n, h⟩))); iexact HR
  iintro ⟨Hc, HO⟩
  iapply Hk
  isplitl [HO]; · iexists W; iexact HO
  isplitl [Hrest]; · iexact Hrest
  isplitl [Hc]; · iexact Hc
  iexact Hdon

/-- Before transfer `n` of the all-gather: what is left of the reduced chunk's share, the slots of the transfers to come, the send
    credits of those started. -/
def agItem (c : Dev nD) (k : Fin 16) : sProp 𝕄 :=
  iprop((∃ X, agPts (fwd c k) k X) ∗ dutyTok EX (xCell 2 k c) 0 0 ∗ dutyTok EX (xCell 3 k (fwd c k)) 0 0)
def AgSt (c : Dev nD) (n : ℕ) : sProp 𝕄 :=
  iprop(oweSt c (oX 3 c n) ∗ redPts c (restShare n) (R c) ∗ bigSep (rem n) (agItem c) ∗ bigSep (don n) (credItem 2 c))

theorem red_split (c : Dev nD) (n : ℕ) (X : S2x16x768.Idx → Elt F .bf16) :
    (redPts c (restShare n) X : sProp 𝕄) ⊢ iprop(redPts c (partShare n) X ∗ redPts c (restShare (n + 1)) X) := by
  unfold redPts owns
  iintro ⟨%f, %hf, H⟩
  ihave H' := (pointsTo_share (PosShare.mem_left_op_right (restShare n))).1 $$ H
  icases H' with ⟨Hl, Hr⟩
  isplitl [Hl]
  · iexists f; isplitr; · ipureintro; exact hf
    iexact Hl
  · iexists f; isplitr; · ipureintro; exact hf
    iexact Hr

theorem red_join (c : Dev nD) (n : ℕ) (X : S2x16x768.Idx → Elt F .bf16) :
    iprop(redPts c (partShare n) X ∗ redPts c (restShare (n + 1)) X) ⊢ (redPts c (restShare n) X : sProp 𝕄) := by
  unfold redPts
  rw [owns_whole, owns_whole, owns_whole]
  exact (pointsTo_share (PosShare.mem_left_op_right (restShare n))).2

theorem ag_step (c : Dev nD) (n : ℕ) (h1 : 1 ≤ n) (h : n < 16) {d : Dev nD} (hd : d = fwd c ⟨n, h⟩)
    {dst : Memref sig .tc .vmem S2x16x768 .bf16} (hdst : dst = agSlot ⟨n, h⟩)
    {sS sem : DmaSem sig} (hS : sS = dsem 2 ⟨n, h⟩) (hsm : sem = dsem 3 ⟨n, h⟩)
    {hsc : (dst : Memref sig (Dev.tc d : Thread nD τ).2.kind .vmem S2x16x768 .bf16).view.ref.isScScratch = false}
    {hx : redM.view.WordExact} {hy : dst.view.WordExact}
    {hsem : DmaTarget.Typed .vmem (.dma sem) (.remote (Dev.tc d : Thread nD τ) (dst : Memref sig (Dev.tc d : Thread nD τ).2.kind .vmem S2x16x768 .bf16) (.dma sS) hsc)}
    {α : Type} {Q : α → sProp 𝕄} {k : PUnit → Prog (TpuEff nD τ sig (Elt F) Λ₀ .tc) α} :
    iprop(recs P R K ∗ AgSt R c n)
      ⊢ iprop((AgSt R c (n + 1) -∗ wpC c (k ⟨⟩) Q)
          -∗ wpC c (.op (.enqueueDma redM (.remote (Dev.tc d : Thread nD τ) dst (.dma sS) hsc) (.dma sem) hx hy hsem) k) Q) := by
  subst hd hdst hS hsm
  unfold AgSt
  rw [sep_rem h (agItem c), sep_don h1 h (credItem 2 c)]
  unfold oweSt agItem credItem
  iintro ⟨#HR, ⟨%W, HO⟩, Hred, ⟨⟨Hd, Ht0, Ht1⟩, Hrest⟩, Hdon⟩ Hk
  ihave Hred' := (red_split c n (R c)) $$ Hred
  icases Hred' with ⟨Hs, Hred⟩
  unfold agPts
  ihave Hs' := (show redPts c (partShare n) (R c) ⊢ iprop(∃ f, ⌜redM.view.read (Elt F) f = R c⌝ ∗ (redM.view.loc (c : Thread nD τ) ↦[redM.view.set]{partShare n} f)) from .rfl) $$ Hs
  icases Hs' with ⟨%fs, %hfs, Hs⟩
  icases Hd with ⟨%X, Hd⟩
  ihave Hd' := (show owns (fwd c ⟨n, h⟩ : Thread nD τ) (agSlot ⟨n, h⟩) fullShare X ⊢ iprop(∃ f, ⌜(agSlot ⟨n, h⟩).view.read (Elt F) f = X⌝ ∗ ((agSlot ⟨n, h⟩).view.loc (fwd c ⟨n, h⟩ : Thread nD τ) ↦[(agSlot ⟨n, h⟩).view.set]{fullShare} f)) from .rfl) $$ Hd
  icases Hd' with ⟨%fd, -, Hd⟩
  iapply (Rounds.wp_send_pointsTo 𝒱₀ EX (Rd P R) (c : Thread nD τ) none (c' := (fwd c ⟨n, h⟩ : Thread nD τ)) (src := redM) (dst := agSlot ⟨n, h⟩) (κ₁ := K (c, some (2, ⟨n, h⟩))) (κ₂ := K (fwd c ⟨n, h⟩, some (3, ⟨n, h⟩)))
      (r₁ := 0) (r₂ := 0) (d₁ := 0) (d₂ := 0) (fs := fs) (fd := fd) (q := partShare n)
      (by rw [duties_x P R c 2 (ne_zero_of h1 h)]; exact Finset.mem_singleton_self _)
      (by rw [duties_x P R _ 3 (ne_zero_of h1 h)]; exact Finset.mem_singleton_self _)
      () () N rfl (amount_x P R c 2 _ 0) (amount_x P R _ 3 _ 0) (O₀ := oX 3 c n) (oX 3 c (n + 1))
      (oX_step 3 c h) (W := W)
      (by
        rw [payload_x]; unfold xPay redPts
        rw [← hfs]; exact owns_intro (c : Thread nD τ) redM (partShare n) fs)
      (by
        rw [payload_x]; unfold xPay agPts
        refine (owns_intro (fwd c ⟨n, h⟩ : Thread nD τ) (agSlot ⟨n, h⟩) fullShare _).trans (Entails.of_eq ?_)
        rw [View.read_write_univ, hfs, bwd_fwd]))
    $$ [HO Hs Hd Ht0 Ht1]
  · isplitr; · iapply (recs_inv P R K (c, some (2, ⟨n, h⟩))); iexact HR
    isplitr; · iapply (recs_inv P R K (fwd c ⟨n, h⟩, some (3, ⟨n, h⟩))); iexact HR
    isplitl [Hs]; · iexact Hs
    isplitl [Hd]; · iexact Hd
    isplitl [HO]; · iexact HO
    isplitl [Ht0]; · iexact Ht0
    isplitr; · iapply (recs_reached P R K (c, some (2, ⟨n, h⟩))); iexact HR
    isplitl [Ht1]; · iexact Ht1
    iapply (recs_reached P R K (fwd c ⟨n, h⟩, some (3, ⟨n, h⟩))); iexact HR
  iintro ⟨Hc, HO⟩
  iapply Hk
  isplitl [HO]; · iexists W; iexact HO
  isplitl [Hred]; · iexact Hred
  isplitl [Hrest]; · iexact Hrest
  isplitl [Hc]; · iexact Hc
  iexact Hdon

/-! ## The waits on the transfers' cells -/

/-- A wait for the transfer number `n` of array `a` on the device's own cell. -/
theorem wait_step (a : Fin 4) (c : Dev nD) (n : ℕ) (h1 : 1 ≤ n) (h : n < 16) (O : CellTallies nD τ sig Unit)
    (hO : Above (lvS (.dma (dsem a ⟨n, h⟩))) O) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (dsem a ⟨n, h⟩)) N Kt)
    {α : Type} {Q : α → sProp 𝕄} {k : PUnit → Prog (TpuEff nD τ sig (Elt F) Λ₀ .tc) α} :
    iprop(recs P R K ∗ cred (tallyAt (xCell a ⟨n, h⟩ c) () N) ∗ oweSt c O ∗ atPos EX (xCell a ⟨n, h⟩ c) 0 ∅ 0)
      ⊢ iprop(((oweSt c O ∗ atPos EX (xCell a ⟨n, h⟩ c) 1 ∅ 0 ∗ xPay P R c a ⟨n, h⟩) -∗ wpC c (k ⟨⟩) Q) -∗ wpC c (.op w k) Q) := by
  unfold oweSt
  iintro ⟨#HR, Hc, ⟨%W, HO⟩, Hat⟩ Hk
  iapply (Rounds.wp_wait_rest_token 𝒱₀ EX (Rd P R) (c : Thread nD τ) none (κ := K (c, some (a, ⟨n, h⟩)))
      hw (Set.mem_univ _) () (O := O) (W := W) (R := 0) (m := 0) (T := ∅)
      (by rw [Nat.zero_add, expect_x P R c a (ne_zero_of h1 h)])) $$ [Hc HO Hat]
  · isplitr; · iapply (recs_inv P R K (c, some (a, ⟨n, h⟩))); iexact HR
    isplitl [Hc]; · iexact Hc
    isplitl [HO]; · iexact HO
    isplitr
    · iapply (recs_mayWait P R K c _ _ hO); iexact HR
    iexact Hat
  iintro ⟨HO, Hat, -, Hpay⟩
  ihave Hp := (Entails.of_eq (rest_x P R c a (ne_zero_of h1 h))) $$ Hpay
  iapply Hk
  isplitl [HO]; · iexists _; iexact HO
  isplitl [Hat]; · iexact Hat
  iexact Hp

def posItem (a : Fin 4) (c : Dev nD) (k : Fin 16) : sProp 𝕄 := atPos EX (xCell a k c) 0 ∅ 0
def waitItem (a : Fin 4) (c : Dev nD) (k : Fin 16) : sProp 𝕄 := iprop(credItem a c k ∗ posItem a c k)
def gotItem (a : Fin 4) (c : Dev nD) (k : Fin 16) : sProp 𝕄 := iprop(atPos EX (xCell a k c) 1 ∅ 0 ∗ xPay P R c a k)

/-- Before the wait `n` on the cells of array `a`, the device owing `O`: `WaitSt`; after it, the payload apart: `HeldSt`. -/
def WaitSt (a : Fin 4) (c : Dev nD) (O : CellTallies nD τ sig Unit) (n : ℕ) : sProp 𝕄 :=
  iprop(oweSt c O ∗ bigSep (rem n) (waitItem a c) ∗ bigSep (don n) (gotItem P R a c))
def HeldSt (a : Fin 4) (c : Dev nD) (O : CellTallies nD τ sig Unit) (n : ℕ) (h : n < 16) : sProp 𝕄 :=
  iprop(oweSt c O ∗ bigSep (rem (n + 1)) (waitItem a c) ∗ atPos EX (xCell a ⟨n, h⟩ c) 1 ∅ 0 ∗ bigSep (don n) (gotItem P R a c))

theorem held_back (a : Fin 4) (c : Dev nD) (O : CellTallies nD τ sig Unit) (n : ℕ) (h1 : 1 ≤ n) (h : n < 16) :
    iprop(HeldSt P R a c O n h ∗ xPay P R c a ⟨n, h⟩) ⊢ WaitSt P R a c O (n + 1) := by
  unfold HeldSt WaitSt
  rw [sep_don h1 h (gotItem P R a c)]
  unfold gotItem
  iintro ⟨⟨HO, Hrem, Hat, Hdon⟩, Hp⟩
  isplitl [HO]; · iexact HO
  isplitl [Hrem]; · iexact Hrem
  isplitl [Hat Hp]
  · isplitl [Hat]; · iexact Hat
    iexact Hp
  iexact Hdon

theorem wait_held (a : Fin 4) (c : Dev nD) (O : CellTallies nD τ sig Unit) (n : ℕ) (h1 : 1 ≤ n) (h : n < 16)
    (hO : Above (lvS (.dma (dsem a ⟨n, h⟩))) O) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (dsem a ⟨n, h⟩)) N Kt)
    {α : Type} {Q : α → sProp 𝕄} {k : PUnit → Prog (TpuEff nD τ sig (Elt F) Λ₀ .tc) α} :
    iprop(recs P R K ∗ WaitSt P R a c O n)
      ⊢ iprop(((HeldSt P R a c O n h ∗ xPay P R c a ⟨n, h⟩) -∗ wpC c (k ⟨⟩) Q) -∗ wpC c (.op w k) Q) := by
  unfold WaitSt HeldSt
  rw [sep_rem h (waitItem a c)]
  iintro ⟨#HR, HO, ⟨Hw, Hrem⟩, Hdon⟩ Hk
  unfold waitItem credItem posItem
  icases Hw with ⟨Hc, Hat⟩
  iapply (wait_step P R K a c n h1 h O hO hw) $$ [HO Hc Hat]
  · isplitr; · iexact HR
    isplitl [Hc]; · iexact Hc
    isplitl [HO]; · iexact HO
    iexact Hat
  iintro ⟨HO, Hat, Hp⟩
  iapply Hk
  isplitr [Hp]
  · isplitl [HO]; · iexact HO
    isplitl [Hrem]; · iexact Hrem
    isplitl [Hat]; · iexact Hat
    iexact Hdon
  iexact Hp

/-- The wait for one's own transfer to leave, when nothing is owed any more. -/
theorem drain_step (a : Fin 4) (c : Dev nD) (n : ℕ) (h1 : 1 ≤ n) (h : n < 16) {sem : DmaSem sig} (hs : sem = dsem a ⟨n, h⟩)
    {sp' : Space} {s' : Shape} {e' : EltTy} {src : Memref sig .tc sp' s' e'} {dst : Memref sig .tc .vmem S2x16x768 .bf16} {hx : src.view.WordExact} {hy : dst.view.WordExact}
    (hN : dst.view.dmaCredit = N) {α : Type} {Q : α → sProp 𝕄} {k : PUnit → Prog (TpuEff nD τ sig (Elt F) Λ₀ .tc) α} :
    iprop(recs P R K ∗ WaitSt P R a c 0 n)
      ⊢ iprop((WaitSt P R a c 0 (n + 1) -∗ wpC c (k ⟨⟩) Q) -∗ wpC c (.op (.waitDma2 sem src dst hx hy) k) Q) := by
  subst hs
  iintro H Hk
  iapply (wait_held P R K a c 0 n h1 h (Above.zero _) (fun Kt => (wpE_waitDma2_eq 𝒱₀ (c : Thread nD τ) none Set.univ Kt).trans (by rw [hN]))) $$ H
  iintro H
  ihave H' := (held_back P R a c 0 n h1 h) $$ H
  iapply Hk; iexact H'

/-- A wait for a landing. -/
theorem land_step (a : Fin 4) (c : Dev nD) (O : CellTallies nD τ sig Unit) (n : ℕ) (h1 : 1 ≤ n) (h : n < 16) (hO : Above (lvS (.dma (dsem a ⟨n, h⟩))) O)
    {sem : DmaSem sig} (hs : sem = dsem a ⟨n, h⟩) {src dst : Memref sig .tc .vmem S2x16x768 .bf16} {hx : src.view.WordExact} {hy : dst.view.WordExact}
    (hN : dst.view.dmaCredit = N) {α : Type} {Q : α → sProp 𝕄} {k : PUnit → Prog (TpuEff nD τ sig (Elt F) Λ₀ .tc) α} :
    iprop(recs P R K ∗ WaitSt P R a c O n)
      ⊢ iprop(((HeldSt P R a c O n h ∗ xPay P R c a ⟨n, h⟩) -∗ wpC c (k ⟨⟩) Q) -∗ wpC c (.op (.waitDma2 sem src dst hx hy) k) Q) := by
  subst hs
  exact wait_held P R K a c O n h1 h hO (fun Kt => (wpE_waitDma2_eq 𝒱₀ (c : Thread nD τ) none Set.univ Kt).trans (by rw [hN]))

end Cert.AttnProof

end
-- ==== Proof.Values.lean ====
/-
What each device's buffers hold, as functions of the seven blocks it is given: the attention output `ctxG`, its projection
`pfG` and the rounded copy `parG`, the reduced chunk `accG c n` after the landings before `n`, the result's chunks. The names
follow the kernel's own payloads.
-/
module

public import proofs.«01_k».proof.Proof.Proto
public import Idealize.ShloMosaic.Lib.Pipeline.FrameBody

@[expose] public section

noncomputable section

namespace Cert.AttnProof

open Cert.KernelIdeal Cert.KernelIdeal.Gen

open Idealize.ShloMosaic
open Idealize.ShloMosaic.TcCoe

variable {F : FTy → Type} [FloatOps F]

/-- The blocks a device is given. -/
structure Ins (F : FTy → Type) where
  x : S2x256x768.Idx → Elt F .f32
  wq : S768x256.Idx → Elt F .f32
  wk : S768x256.Idx → Elt F .f32
  wv : S768x256.Idx → Elt F .f32
  wo : S256x768.Idx → Elt F .f32
  co : S256x64.Idx → Elt F .f32
  si : S256x64.Idx → Elt F .f32

namespace Ins

variable (I : Ins F)

/-- The rows of batch element `b` of the input. -/
def row0 : S1x256x768.Idx → Elt F .f32 := View.ld I.x (Rect.unit (s := S2x256x768) ![0, 0, 0] S1x256x768.size inb_S2x256x768_S1x256x768_0_0_0)
def row1 : S1x256x768.Idx → Elt F .f32 := View.ld I.x (Rect.unit (s := S2x256x768) ![1, 0, 0] S1x256x768.size inb_S2x256x768_S1x256x768_1_0_0)

def cosT : FVec F S256x256 .f32 := k0_pay1 I.co
def sinT : FVec F S256x256 .f32 := k0_pay2 I.si
def it0 : IVec S256x256 32 := iota .tc S256x256 32 [0] iota_S256x256_d0_w32
def it1 : IVec S256x256 32 := iota .tc S256x256 32 [1] iota_S256x256_d1_w32
/-- The rotation's matrix of zeros and signs. -/
def rotM : FVec F S256x256 .bf16 := k0_pay5 it0 it1 k0_pay3 k0_pay4 0#32

/-- Batch element 0: rotated queries, the keys' two summands, values. -/
def q0 : FVec F S256x256 .f32 := k0_pay13 I.cosT I.sinT it0 it1 k0_pay3 k0_pay4 0#32 I.wq I.row0
def kc0 : FVec F S256x256 .f32 := k0_pay14 I.cosT I.wk I.row0
def kb0 : FVec F S256x256 .bf16 := k0_pay15 I.wk I.row0
def v0 : FVec F S256x256 .f32 := k0_pay12 I.wv I.row0
/-- Batch element 1. -/
def q1 : FVec F S256x256 .f32 := k0_pay27 I.cosT I.sinT rotM (k0_pay7 I.wq) I.row1
def kc1 : FVec F S256x256 .f32 := k0_pay28 I.cosT (k0_pay8 I.wk) I.row1
def kr1 : FVec F S256x256 .f32 := k0_pay29 rotM (k0_pay8 I.wk) I.row1
def v1 : FVec F S256x256 .f32 := k0_pay26 (k0_pay9 I.wv) I.row1

/-- The four heads of batch element 0. -/
def h00 : FVec F S1x256x64 .bf16 := k0_pay19 I.sinT rotM I.v0 I.q0 I.kc0 I.kb0
def h01 : FVec F S1x256x64 .bf16 := k0_pay20 I.sinT rotM I.v0 I.q0 I.kc0 I.kb0
def h02 : FVec F S1x256x64 .bf16 := k0_pay22 (k0_pay18 I.v0) (k0_pay21 I.sinT rotM I.q0 I.kc0 I.kb0)
def h03 : FVec F S1x256x64 .bf16 := k0_pay23 (k0_pay16 I.q0) (k0_pay17 I.sinT rotM I.kc0 I.kb0) (k0_pay18 I.v0)
/-- The four heads of batch element 1. -/
def h10 : FVec F S1x256x64 .bf16 := k0_pay33 I.sinT I.v1 I.q1 I.kc1 I.kr1
def h11 : FVec F S1x256x64 .bf16 := k0_pay34 I.sinT I.v1 I.q1 I.kc1 I.kr1
def h12 : FVec F S1x256x64 .bf16 :=
  k0_pay37 (k0_pay32 I.v1) (k0_pay35 I.sinT I.q1 I.kc1 I.kr1) (k0_pay36 I.sinT I.q1 I.kc1 I.kr1)
def h13 : FVec F S1x256x64 .bf16 := k0_pay38 (k0_pay30 I.q1) (k0_pay31 I.sinT I.kc1 I.kr1) (k0_pay32 I.v1)

/-- The stores that fill the attention output, last first. -/
def ctxL : List (View.Piece (Elt F) S2x256x256 .bf16) :=
  [⟨Rect.unit (s := S2x256x256) ![1, 0, 192] S1x256x64.size inb_S2x256x256_S1x256x64_1_0_192, I.h13⟩,
   ⟨Rect.unit (s := S2x256x256) ![1, 0, 128] S1x256x64.size inb_S2x256x256_S1x256x64_1_0_128, I.h12⟩,
   ⟨Rect.unit (s := S2x256x256) ![1, 0, 64] S1x256x64.size inb_S2x256x256_S1x256x64_1_0_64, I.h11⟩,
   ⟨Rect.unit (s := S2x256x256) ![1, 0, 0] S1x256x64.size inb_S2x256x256_S1x256x64_1_0_0, I.h10⟩,
   ⟨Rect.unit (s := S2x256x256) ![0, 0, 192] S1x256x64.size inb_S2x256x256_S1x256x64_0_0_192, I.h03⟩,
   ⟨Rect.unit (s := S2x256x256) ![0, 0, 128] S1x256x64.size inb_S2x256x256_S1x256x64_0_0_128, I.h02⟩,
   ⟨Rect.unit (s := S2x256x256) ![0, 0, 64] S1x256x64.size inb_S2x256x256_S1x256x64_0_0_64, I.h01⟩,
   ⟨Rect.unit (s := S2x256x256) ![0, 0, 0] S1x256x64.size inb_S2x256x256_S1x256x64_0_0_0, I.h00⟩]
def ctxG : S2x256x256.Idx → Elt F .bf16 := View.canon I.ctxL
theorem ctx_cover : ∀ y : S2x256x256.Idx, ∃ p ∈ I.ctxL, y ∈ p.1.set := View.cover_of_tiled I.ctxL S1x256x64.size rfl

def c0 : S1x256x256.Idx → Elt F .bf16 := View.ld I.ctxG (Rect.unit (s := S2x256x256) ![0, 0, 0] S1x256x256.size inb_S2x256x256_S1x256x256_0_0_0)
def c1 : S1x256x256.Idx → Elt F .bf16 := View.ld I.ctxG (Rect.unit (s := S2x256x256) ![1, 0, 0] S1x256x256.size inb_S2x256x256_S1x256x256_1_0_0)
def woB : FVec F S256x768 .bf16 := k0_pay6 I.wo

/-- The device's share of the projection, -/
def pfL : List (View.Piece (Elt F) S2x256x768 .f32) :=
  [⟨Rect.unit (s := S2x256x768) ![1, 0, 0] S1x256x768.size inb_S2x256x768_S1x256x768_1_0_0, k0_pay43 I.woB I.c1⟩,
   ⟨Rect.unit (s := S2x256x768) ![0, 0, 0] S1x256x768.size inb_S2x256x768_S1x256x768_0_0_0, k0_pay40 I.woB I.c0⟩]
def pfG : S2x256x768.Idx → Elt F .f32 := View.canon I.pfL
theorem pf_cover : ∀ y : S2x256x768.Idx, ∃ p ∈ I.pfL, y ∈ p.1.set := View.cover_of_tiled I.pfL S1x256x768.size rfl
/-- and its rounded copy, which the transfers read. -/
def parL : List (View.Piece (Elt F) S2x256x768 .bf16) :=
  [⟨Rect.unit (s := S2x256x768) ![1, 0, 0] S1x256x768.size inb_S2x256x768_S1x256x768_1_0_0, k0_pay44 I.woB I.c1⟩,
   ⟨Rect.unit (s := S2x256x768) ![0, 0, 0] S1x256x768.size inb_S2x256x768_S1x256x768_0_0_0, k0_pay41 I.woB I.c0⟩]
def parG : S2x256x768.Idx → Elt F .bf16 := View.canon I.parL
theorem par_cover : ∀ y : S2x256x768.Idx, ∃ p ∈ I.parL, y ∈ p.1.set := View.cover_of_tiled I.parL S1x256x768.size rfl

/-- Chunk `e` of the rounded copy. -/
def chunk (e : Dev nD) : S2x16x768.Idx → Elt F .bf16 := fun j => I.parG ((chunkR e).emb j)

/-- The device's own chunk of its share, `c` being its place. -/
def acc0L (c : Dev nD) : List (View.Piece (Elt F) S2x16x768 .f32) :=
  [⟨Rect.unit (s := S2x16x768) ![1, 0, 0] S1x16x768.size inb_S2x16x768_S1x16x768_1_0_0,
      k0_pay47 (View.ld I.pfG (Rect.unit (s := S2x256x768) (k0_off3 c) S1x16x768.size (k0_off3_inb c)))⟩,
   ⟨Rect.unit (s := S2x16x768) ![0, 0, 0] S1x16x768.size inb_S2x16x768_S1x16x768_0_0_0,
      k0_pay46 (k0_pay45 (View.ld I.pfG (Rect.unit (s := S2x256x768) (k0_off2 c) S1x16x768.size (k0_off2_inb c))))⟩]
theorem acc0_cover (c : Dev nD) : ∀ y : S2x16x768.Idx, ∃ p ∈ I.acc0L c, y ∈ p.1.set := View.cover_of_tiled (I.acc0L c) S1x16x768.size rfl

end Ins

/-- A landing slot's contents with the slot's own axis in front. -/
def slotV (X : S2x16x768.Idx → Elt F .bf16) : S1x2x16x768.Idx → Elt F .bf16 := shapeCast S1x2x16x768 X rfl

variable (In : Dev nD → Ins F)

/-- What the reduce-scatter's transfer from `d` to `e` carries. -/
def pieceG (d e : Dev nD) : S2x16x768.Idx → Elt F .bf16 := (In d).chunk e

/-- The sum on device `c` after the landings before number `n + 1`. -/
def accN (c : Dev nD) : ℕ → S2x16x768.Idx → Elt F .f32
  | 0 => View.canon ((In c).acc0L c)
  | n + 1 => k0_pay48 (accN c n) (slotV (pieceG In (bwd c (Fin.ofNat 16 (n + 1))) c))
/-- Before landing `n`. -/
abbrev accG (c : Dev nD) (n : ℕ) : S2x16x768.Idx → Elt F .f32 := accN In c (n - 1)
/-- The reduced chunk, rounded. -/
def redG (c : Dev nD) : S2x16x768.Idx → Elt F .bf16 := k0_pay65 (accG In c 16)

theorem accG_one (c : Dev nD) : accG In c 1 = View.canon ((In c).acc0L c) := rfl
theorem accG_step (c : Dev nD) {n : ℕ} (h1 : 1 ≤ n) (h : n < 16) :
    accG In c (n + 1) = k0_pay48 (accG In c n) (slotV (pieceG In (bwd c ⟨n, h⟩) c)) := by
  obtain ⟨m, rfl⟩ : ∃ m, n = m + 1 := ⟨n - 1, by omega⟩
  show k0_pay48 (accN In c m) _ = k0_pay48 (accN In c m) _
  rw [show (Fin.ofNat 16 (m + 1) : Fin 16) = ⟨m + 1, h⟩ from Fin.ext (Nat.mod_eq_of_lt h)]

/-- The stores into the result before landing `n` of the all-gather, last first. -/
def outL (c : Dev nD) : ℕ → List (View.Piece (Elt F) S2x256x768 .f32)
  | 0 => []
  | 1 => [⟨chunkR c, accG In c 16⟩]
  | n + 2 => ⟨chunkR (bwd c (Fin.ofNat 16 (n + 1))), k0_pay66 (slotV (redG In (bwd c (Fin.ofNat 16 (n + 1)))))⟩ :: outL c (n + 1)
/-- The device's result. -/
def outG (c : Dev nD) : S2x256x768.Idx → Elt F .f32 := View.canon (outL In c 16)

theorem outL_step (c : Dev nD) {n : ℕ} (h1 : 1 ≤ n) (h : n < 16) :
    outL In c (n + 1) = ⟨chunkR (bwd c ⟨n, h⟩), k0_pay66 (slotV (redG In (bwd c ⟨n, h⟩)))⟩ :: outL In c n := by
  obtain ⟨m, rfl⟩ : ∃ m, n = m + 1 := ⟨n - 1, by omega⟩
  rw [outL, show (Fin.ofNat 16 (m + 1) : Fin 16) = ⟨m + 1, h⟩ from Fin.ext (Nat.mod_eq_of_lt h)]

/-- Every device but `c` is some number of places before it, from 1 to 15. -/
theorem exists_bwd (c e : Dev nD) (h : e ≠ c) : ∃ n, ∃ hn : n < 16, 1 ≤ n ∧ e = bwd c ⟨n, hn⟩ := by
  revert c e; decide

theorem mem_outL_own (c : Dev nD) : ∀ n, 1 ≤ n → (⟨chunkR c, accG In c 16⟩ : View.Piece (Elt F) S2x256x768 .f32) ∈ outL In c n
  | 0, h => absurd h (by decide)
  | 1, _ => List.mem_singleton_self _
  | n + 2, _ => List.mem_cons_of_mem _ (mem_outL_own c (n + 1) (by omega))
theorem mem_outL (c : Dev nD) {m : ℕ} (h1 : 1 ≤ m) (h : m < 16) : ∀ n, m < n → n ≤ 16 →
    (⟨chunkR (bwd c ⟨m, h⟩), k0_pay66 (slotV (redG In (bwd c ⟨m, h⟩)))⟩ : View.Piece (Elt F) S2x256x768 .f32) ∈ outL In c n
  | 0, hn, _ => absurd hn (by omega)
  | n + 1, hn, hl => by
    rw [outL_step In c (n := n) (by omega) (by omega)]
    rcases Nat.lt_or_ge m n with hm | hm
    · exact List.mem_cons_of_mem _ (mem_outL c h1 h n hm (by omega))
    · obtain rfl : m = n := by omega
      exact List.mem_cons_self

theorem mem_chunkR (y : S2x256x768.Idx) (e : Dev nD) (h : (y 1).val / 16 = e.val) : y ∈ (chunkR e).set := by
  refine (chunkR e).mem_set.mpr fun a => ?_
  have h0 := (y 0).isLt
  have h2 := (y 2).isLt
  fin_cases a
  · exact ⟨(y 0).val, h0, by show (y 0).val = 0 + 1 * (y 0).val; omega⟩
  · exact ⟨(y 1).val % 16, Nat.mod_lt _ (by decide), by show (y 1).val = 16 * e.val + 1 * ((y 1).val % 16); omega⟩
  · exact ⟨(y 2).val, h2, by show (y 2).val = 0 + 1 * (y 2).val; omega⟩

theorem out_cover (c : Dev nD) : ∀ y : S2x256x768.Idx, ∃ p ∈ outL In c 16, y ∈ p.1.set := fun y => by
  have hy : (y 1).val < 256 := (y 1).isLt
  by_cases he : (⟨(y 1).val / 16, by show _ < 16; omega⟩ : Dev nD) = c
  · exact ⟨_, mem_outL_own In c 16 (by decide), mem_chunkR y c (congrArg Fin.val he)⟩
  · obtain ⟨n, hn, h1, h⟩ := exists_bwd c _ he
    exact ⟨_, mem_outL In c h1 hn 16 hn le_rfl, mem_chunkR y _ (congrArg Fin.val h)⟩

end Cert.AttnProof

end
-- ==== Proof.Ops.lean ====
/-
Loads and stores on a buffer held by what it reads as (`owns`) or by the list of stores made into it over unknown contents
(`filled`), and the steps of the two receiving phases: wait for a landing, read it, fold it into the sum or into the result.
-/
module

public import proofs.«01_k».proof.Proof.Steps
public import proofs.«01_k».proof.Proof.Values
public import Idealize.ShloMosaic.Lib.Writes
public import Idealize.ShloMosaic.Lib.Pipeline.Value

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Buffers

variable {s : Shape} {e : EltTy} (c : Dev nD) (m : Memref sig .tc .vmem s e)

/-- The memref's elements, at the stores `L` (last first) over some contents. -/
def filled (L : List (View.Piece (Elt F) s e)) : sProp 𝕄 :=
  iprop(∃ f, m.view.loc (c : Thread nD τ) ↦[m.view.set]{fullShare} m.view.writes (Elt F) f L)

theorem filled_start (q : m.view.ty.Contents (Elt F)) : (m.view.loc (c : Thread nD τ) ↦[m.view.set]{fullShare} q) ⊢ filled (F := F) c m [] := by
  unfold filled; iintro H; iexists q; iexact H
theorem filled_of_owns (X : s.Idx → Elt F e) : owns (c : Thread nD τ) m fullShare X ⊢ filled (F := F) c m [] := by
  unfold owns filled; iintro ⟨%f, -, H⟩; iexists f; iexact H
theorem owns_of_filled {L : List (View.Piece (Elt F) s e)} (h : ∀ y, ∃ p ∈ L, y ∈ p.1.set) :
    filled (F := F) c m L ⊢ owns (c : Thread nD τ) m fullShare (View.canon L) := by
  unfold filled owns; iintro ⟨%f, H⟩; iexists _
  isplitr
  · ipureintro; exact View.read_writes_eq_canon m.view f L h
  iexact H

theorem full_cover {off : Fin s.rank → ℕ} {inb : ∀ a, off a + s.size a ≤ s.size a} (h : off = fun _ => 0) (X : s.Idx → Elt F e)
    (L : List (View.Piece (Elt F) s e)) (y : s.Idx) : ∃ p ∈ (⟨Rect.unit (s := s) off s.size inb, X⟩ :: L : List (View.Piece (Elt F) s e)), y ∈ p.1.set := by
  exact ⟨_, List.mem_cons_self, View.mem_set_unit_zero h inb y⟩

/-- A load of what is known, -/
theorem owns_load {q : PosShare TreeShare} {X : s.Idx → Elt F e} {r : Rect s} {hl : m.view.LoadsAt r.toLoadRect}
    {α : Type} {Q : α → sProp 𝕄} {k : (r.shape.Idx → Elt F e) → Prog (TpuEff nD τ sig (Elt F) Λ₀ .tc) α} :
    owns (c : Thread nD τ) m q X
      ⊢ iprop((owns (c : Thread nD τ) m q X -∗ wpC c (k (View.ld X r)) Q) -∗ wpC c (.op (.load m r.toLoadRect hl) k) Q) := by
  unfold owns
  iintro ⟨%f, %hf, H⟩ Hk
  subst hf
  iapply (wp_load 𝒱₀ (c : Thread nD τ) none Set.univ (m := m) (m.view.setOn_subset_set _)) $$ H
  iintro H
  iapply Hk
  iexists f
  isplitr; · ipureintro; rfl
  iexact H

/-- of a whole buffer, -/
theorem owns_load_full {q : PosShare TreeShare} {X : s.Idx → Elt F e} {off : Fin s.rank → ℕ} {inb : ∀ a, off a + s.size a ≤ s.size a}
    {hl : m.view.LoadsAt (Rect.unit (s := s) off s.size inb).toLoadRect} (h : off = fun _ => 0)
    {α : Type} {Q : α → sProp 𝕄} {k : (s.Idx → Elt F e) → Prog (TpuEff nD τ sig (Elt F) Λ₀ .tc) α} :
    owns (c : Thread nD τ) m q X
      ⊢ iprop((owns (c : Thread nD τ) m q X -∗ wpC c (k X) Q) -∗ wpC c (.op (.load m (Rect.unit (s := s) off s.size inb).toLoadRect hl) k) Q) := by
  have := owns_load (F := F) c m (q := q) (X := X) (r := Rect.unit (s := s) off s.size inb) (hl := hl) (k := k) (Q := Q)
  rwa [View.ld_unit_zero h inb X] at this

/-- and of whatever a buffer holds. -/
theorem filled_load {L : List (View.Piece (Elt F) s e)} {r : Rect s} {hl : m.view.LoadsAt r.toLoadRect}
    {α : Type} {Q : α → sProp 𝕄} {k : (r.shape.Idx → Elt F e) → Prog (TpuEff nD τ sig (Elt F) Λ₀ .tc) α} :
    filled c m L ⊢ iprop((∀ v, filled c m L -∗ wpC c (k v) Q) -∗ wpC c (.op (.load m r.toLoadRect hl) k) Q) := by
  unfold filled
  iintro ⟨%f, H⟩ Hk
  iapply (wp_load 𝒱₀ (c : Thread nD τ) none Set.univ (m := m) (m.view.setOn_subset_set _)) $$ H
  iintro H
  iapply Hk
  iexists f
  iexact H

theorem filled_store {L : List (View.Piece (Elt F) s e)} {r : Rect s} {w : r.shape.Idx → Elt F e}
    {hx : (m.access r).Stores Finset.univ} {hm : Finset.univ = Finset.univ ∨ ∀ a, r.stride a = 1}
    {α : Type} {Q : α → sProp 𝕄} {k : PUnit → Prog (TpuEff nD τ sig (Elt F) Λ₀ .tc) α} :
    filled c m L ⊢ iprop((filled c m (⟨r, w⟩ :: L) -∗ wpC c (k ⟨⟩) Q) -∗ wpC c (.op (.store m r w Finset.univ hx hm) k) Q) := by
  unfold filled
  iintro ⟨%f, H⟩ Hk
  iapply (wp_store_writes 𝒱₀ (c : Thread nD τ) none Set.univ (m := m) (m.setOn_access_subset r Finset.univ)) $$ H
  iintro H
  iapply Hk
  iexists f
  iexact H

theorem owns_store_full {X : s.Idx → Elt F e} {off : Fin s.rank → ℕ} {inb : ∀ a, off a + s.size a ≤ s.size a} {w : s.Idx → Elt F e}
    {hx : (m.access (Rect.unit (s := s) off s.size inb)).Stores Finset.univ} {hm : Finset.univ = Finset.univ ∨ ∀ a, (Rect.unit (s := s) off s.size inb).stride a = 1}
    (h : off = fun _ => 0) {α : Type} {Q : α → sProp 𝕄} {k : PUnit → Prog (TpuEff nD τ sig (Elt F) Λ₀ .tc) α} :
    owns (c : Thread nD τ) m fullShare X
      ⊢ iprop((owns (c : Thread nD τ) m fullShare w -∗ wpC c (k ⟨⟩) Q) -∗ wpC c (.op (.store m (Rect.unit (s := s) off s.size inb) w Finset.univ hx hm) k) Q) := by
  iintro H Hk
  ihave H := (filled_of_owns c m X) $$ H
  iapply (filled_store c m) $$ H
  iintro H
  ihave H := (owns_of_filled c m (full_cover h w [])) $$ H
  rw [View.canon_unit_zero h inb w]
  iapply Hk
  iexact H

end Buffers

theorem zero3 : (![0, 0, 0] : Fin 3 → ℕ) = fun _ => 0 := by funext a; fin_cases a <;> rfl
theorem zero2 : (![0, 0] : Fin 2 → ℕ) = fun _ => 0 := by funext a; fin_cases a <;> rfl

section Slots

variable (c : Dev nD)

theorem slot_sub (M : Memref sig .tc .vmem S16x2x16x768 .bf16) (k : Fin 16) :
    M.view.setOn (slotR k).toLoadRect.set ⊆ ((M.slice (slotR k) (fun _ => rfl)).squeeze S2x16x768 squeezes_S1x2x16x768_S2x16x768).view.set := by
  rw [Memref.set_view_squeeze]
  exact Memref.setOn_subset_of_access_subset (c := ((0 : Dev nD) : Thread nD τ)) (r := slotR k) (Finset.Subset.refl _)

/-- A load of one landing slot from the buffer of all of them. -/
theorem slot_load (M : Memref sig .tc .vmem S16x2x16x768 .bf16) (k : Fin 16) {X : S2x16x768.Idx → Elt F .bf16} {off : Fin 4 → ℕ}
    (hoff : off = ![k.val, 0, 0, 0]) {inb : ∀ a, off a + S1x2x16x768.size a ≤ S16x2x16x768.size a}
    {hl : M.view.LoadsAt (Rect.unit (s := S16x2x16x768) off S1x2x16x768.size inb).toLoadRect}
    {α : Type} {Q : α → sProp 𝕄} {p : (S1x2x16x768.Idx → Elt F .bf16) → Prog (TpuEff nD τ sig (Elt F) Λ₀ .tc) α} :
    owns (c : Thread nD τ) ((M.slice (slotR k) (fun _ => rfl)).squeeze S2x16x768 squeezes_S1x2x16x768_S2x16x768) fullShare X
      ⊢ iprop((owns (c : Thread nD τ) ((M.slice (slotR k) (fun _ => rfl)).squeeze S2x16x768 squeezes_S1x2x16x768_S2x16x768) fullShare X -∗ wpC c (p (slotV X)) Q)
          -∗ wpC c (.op (.load M (Rect.unit (s := S16x2x16x768) off S1x2x16x768.size inb).toLoadRect hl) p) Q) := by
  subst hoff
  unfold owns
  iintro ⟨%f, %hf, H⟩ Hk
  have hv : M.view.readAt (Elt F) (slotR k).toLoadRect f = slotV X := by
    rw [← hf]
    exact (shapeCast_shapeCast _ _ _).symm
  rw [← hv]
  iapply (wp_load 𝒱₀ (c : Thread nD τ) none Set.univ (m := M) (r := (slotR k).toLoadRect)
    (slot_sub M k)) $$ H
  iintro H
  iapply Hk
  iexists f
  isplitr; · ipureintro; exact hf
  iexact H

end Slots

/-! ## One round of each receiving phase -/

abbrev pfM : Memref sig .tc .vmem S2x256x768 .f32 := Memref.whole cc0_scratch1
abbrev ctxM : Memref sig .tc .vmem S2x256x256 .bf16 := Memref.whole cc0_scratch3
abbrev accM : Memref sig .tc .vmem S2x16x768 .f32 := Memref.whole cc0_scratch4

section Rounds

variable (In : Dev nD → Ins F) (K : Dev nD × CellIx → ℕ) (c : Dev nD)

/-- The records, for the pieces and reduced chunks of the inputs `In`. -/
abbrev recsI : sProp 𝕄 := recs (pieceG In) (redG In) K

instance recsI_persistent : Persistent (recsI In K) := by unfold recsI; infer_instance

theorem xPay_rs (k : Fin 16) : (xPay (pieceG In) (redG In) c 1 k : sProp 𝕄) = owns (c : Thread nD τ) (rsSlot k) fullShare (pieceG In (bwd c k) c) := rfl
theorem xPay_ag (k : Fin 16) : (xPay (pieceG In) (redG In) c 3 k : sProp 𝕄) = owns (c : Thread nD τ) (agSlot k) fullShare (redG In (bwd c k)) := rfl

/-- Before landing `n` of the reduce-scatter. -/
def RsW (n : ℕ) : sProp 𝕄 := iprop(WaitSt (pieceG In) (redG In) 1 c (oX 3 c 1) n ∗ owns (c : Thread nD τ) accM fullShare (accG In c n))

theorem rs_round (n : ℕ) (h1 : 1 ≤ n) (h : n < 16)
    {sem : DmaSem sig} (hs : sem = dsem 1 ⟨n, h⟩) {src dst : Memref sig .tc .vmem S2x16x768 .bf16} {hx : src.view.WordExact} {hy : dst.view.WordExact}
    (hN : dst.view.dmaCredit = N) {off off₁ off₂ off₃ : Fin _ → ℕ} (hoff : off = ![n, 0, 0, 0])
    (ho₁ : off₁ = fun _ => 0) (ho₂ : off₂ = fun _ => 0) (ho₃ : off₃ = fun _ => 0)
    {inb : ∀ a, off a + S1x2x16x768.size a ≤ S16x2x16x768.size a} {inb₁ : ∀ a, off₁ a + S2x16x768.size a ≤ S2x16x768.size a}
    {inb₂ : ∀ a, off₂ a + S2x16x768.size a ≤ S2x16x768.size a} {inb₃ : ∀ a, off₃ a + S2x16x768.size a ≤ S2x16x768.size a}
    {hl : rsM.view.LoadsAt (Rect.unit (s := S16x2x16x768) off S1x2x16x768.size inb).toLoadRect}
    {hl₁ : accM.view.LoadsAt (Rect.unit (s := S2x16x768) off₁ S2x16x768.size inb₁).toLoadRect}
    {hl₂ : accM.view.LoadsAt (Rect.unit (s := S2x16x768) off₂ S2x16x768.size inb₂).toLoadRect}
    {hst : (accM.access (Rect.unit (s := S2x16x768) off₃ S2x16x768.size inb₃)).Stores Finset.univ}
    {hm : Finset.univ = Finset.univ ∨ ∀ a, (Rect.unit (s := S2x16x768) off₃ S2x16x768.size inb₃).stride a = 1}
    {w : (S2x16x768.Idx → Elt F .f32) → (S1x2x16x768.Idx → Elt F .bf16) → S2x16x768.Idx → Elt F .f32} (hw : ∀ v x, w v x = k0_pay48 v x)
    {α : Type} {Q : α → sProp 𝕄} {p : PUnit → Prog (TpuEff nD τ sig (Elt F) Λ₀ .tc) α} :
    iprop(recsI In K ∗ RsW In c n)
      ⊢ iprop((RsW In c (n + 1) -∗ wpC c (p ⟨⟩) Q)
          -∗ wpC c (.op (.waitDma2 sem src dst hx hy) fun _ =>
              .op (.load accM (Rect.unit (s := S2x16x768) off₁ S2x16x768.size inb₁).toLoadRect hl₁) fun v =>
              .op (.load rsM (Rect.unit (s := S16x2x16x768) off S1x2x16x768.size inb).toLoadRect hl) fun x =>
              .op (.load accM (Rect.unit (s := S2x16x768) off₂ S2x16x768.size inb₂).toLoadRect hl₂) fun _ =>
              .op (.store accM (Rect.unit (s := S2x16x768) off₃ S2x16x768.size inb₃) (w v x) Finset.univ hst hm) p) Q) := by
  unfold RsW
  iintro ⟨#HR, HW, Ha⟩ Hk
  iapply (land_step (pieceG In) (redG In) K 1 c (oX 3 c 1) n h1 h (by rw [lv_x]; exact Above.ag c 1) hs hN) $$ [HW]
  · isplitr; · iexact HR
    iexact HW
  iintro ⟨HH, Hp⟩
  iapply (owns_load_full c accM ho₁) $$ Ha
  iintro Ha
  ihave Hp := (Entails.of_eq (xPay_rs In c ⟨n, h⟩)) $$ Hp
  iapply (slot_load c rsM ⟨n, h⟩ hoff) $$ Hp
  iintro Hp
  iapply (owns_load_full c accM ho₂) $$ Ha
  iintro Ha
  iapply (owns_store_full c accM ho₃) $$ Ha
  iintro Ha
  rw [hw, ← accG_step In c h1 h]
  iapply Hk
  isplitr [Ha]
  · iapply (held_back (pieceG In) (redG In) 1 c (oX 3 c 1) n h1 h)
    isplitl [HH]; · iexact HH
    iapply (Entails.of_eq (xPay_rs In c ⟨n, h⟩).symm) $$ Hp
  iexact Ha

variable (outM : Memref sig .tc .vmem S2x256x768 .f32)

/-- Before landing `n` of the all-gather. -/
def AgW (n : ℕ) : sProp 𝕄 := iprop(WaitSt (pieceG In) (redG In) 3 c 0 n ∗ filled c outM (outL In c n))

theorem ag_round (n : ℕ) (h1 : 1 ≤ n) (h : n < 16)
    {sem : DmaSem sig} (hs : sem = dsem 3 ⟨n, h⟩) {src dst : Memref sig .tc .vmem S2x16x768 .bf16} {hx : src.view.WordExact} {hy : dst.view.WordExact}
    (hN : dst.view.dmaCredit = N) {off off₁ off₂ : Fin _ → ℕ} (hoff : off = ![n, 0, 0, 0])
    (ho₂ : off₂ = ![0, 16 * (bwd c ⟨n, h⟩).val, 0])
    {inb : ∀ a, off a + S1x2x16x768.size a ≤ S16x2x16x768.size a} {inb₁ : ∀ a, off₁ a + S2x16x768.size a ≤ S2x256x768.size a}
    {inb₂ : ∀ a, off₂ a + S2x16x768.size a ≤ S2x256x768.size a}
    {hl : agM.view.LoadsAt (Rect.unit (s := S16x2x16x768) off S1x2x16x768.size inb).toLoadRect}
    {hl₁ : outM.view.LoadsAt (Rect.unit (s := S2x256x768) off₁ S2x16x768.size inb₁).toLoadRect}
    {hst : (outM.access (Rect.unit (s := S2x256x768) off₂ S2x16x768.size inb₂)).Stores Finset.univ}
    {hm : Finset.univ = Finset.univ ∨ ∀ a, (Rect.unit (s := S2x256x768) off₂ S2x16x768.size inb₂).stride a = 1}
    {w : (S1x2x16x768.Idx → Elt F .bf16) → S2x16x768.Idx → Elt F .f32} (hw : ∀ x, w x = k0_pay66 x)
    {α : Type} {Q : α → sProp 𝕄} {p : PUnit → Prog (TpuEff nD τ sig (Elt F) Λ₀ .tc) α} :
    iprop(recsI In K ∗ AgW In c outM n)
      ⊢ iprop((AgW In c outM (n + 1) -∗ wpC c (p ⟨⟩) Q)
          -∗ wpC c (.op (.waitDma2 sem src dst hx hy) fun _ =>
              .op (.load agM (Rect.unit (s := S16x2x16x768) off S1x2x16x768.size inb).toLoadRect hl) fun x =>
              .op (.load outM (Rect.unit (s := S2x256x768) off₁ S2x16x768.size inb₁).toLoadRect hl₁) fun _ =>
              .op (.store outM (Rect.unit (s := S2x256x768) off₂ S2x16x768.size inb₂) (w x) Finset.univ hst hm) p) Q) := by
  subst ho₂
  unfold AgW
  iintro ⟨#HR, HW, Ha⟩ Hk
  iapply (land_step (pieceG In) (redG In) K 3 c 0 n h1 h (Above.zero _) hs hN) $$ [HW]
  · isplitr; · iexact HR
    iexact HW
  iintro ⟨HH, Hp⟩
  ihave Hp := (Entails.of_eq (xPay_ag In c ⟨n, h⟩)) $$ Hp
  iapply (slot_load c agM ⟨n, h⟩ hoff) $$ Hp
  iintro Hp
  iapply (filled_load c outM) $$ Ha
  iintro %v Ha
  iapply (filled_store c outM) $$ Ha
  iintro Ha
  rw [hw, outL_step In c h1 h]
  iapply Hk
  isplitr [Ha]
  · iapply (held_back (pieceG In) (redG In) 3 c 0 n h1 h)
    isplitl [HH]; · iexact HH
    iapply (Entails.of_eq (xPay_ag In c ⟨n, h⟩).symm) $$ Hp
  iexact Ha

end Rounds

/-- A rule that takes `A` to `A'` under persistent records, read backwards in a context. -/
theorem under {Rc Fr A A' X Y : sProp 𝕄} [Persistent Rc] (h : iprop(Rc ∗ A) ⊢ iprop((A' -∗ X) -∗ Y)) (h' : iprop(Rc ∗ Fr ∗ A') ⊢ X) :
    iprop(Rc ∗ Fr ∗ A) ⊢ Y := by
  iintro ⟨#HR, HF, HA⟩
  iapply h $$ [HA]
  · isplitr; · iexact HR
    iexact HA
  iintro HA
  iapply h'
  isplitr; · iexact HR
  isplitl [HF]; · iexact HF
  iexact HA

end Cert.AttnProof

end
-- ==== Proof.Glue.lean ====
/-
Taking the exchange's buffers apart before the transfers and putting them together after: the partial product by its sixteen
chunks of rows, the landing buffers by their sixteen slots, the reduced chunk by the shares its readers take.
-/
module

public import proofs.«01_k».proof.Proof.Ops
public import Idealize.ShloMosaic.Lib.Ring

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The devices by their place after `c`. -/
def around (c : Dev nD) : Fin 16 ≃ Dev nD where
  toFun k := fwd c k
  invFun d := ⟨(d.val + 16 - c.val) % 16, Nat.mod_lt _ (by decide)⟩
  left_inv k := by revert c k; decide
  right_inv d := by revert c d; decide

/-- All sixteen of something: number 0, and the rest. -/
theorem sep_univ (Φ : Fin 16 → sProp 𝕄) : bigSep Finset.univ Φ = iprop(Φ 0 ∗ bigSep (rem 1) Φ) := by
  rw [univ_eq_rem, bigSep_insert zero_not_mem_rem]; rfl
theorem sep_rem_neg (Φ : Fin 16 → sProp 𝕄) : bigSep (rem 1) (fun k => Φ (neg k)) = bigSep (rem 1) Φ := by
  conv_rhs => rw [← rem_neg, bigSep_map]
  rfl

/-! ## The partial product -/

theorem chunk_disjoint (e e' : Dev nD) (h : e ≠ e') : Disjoint (chunkR e).set (chunkR e').set :=
  Ring.lead_disjoint (s := S2x256x768) 1 16 (fun b : Fin 16 => ![0, 16 * b.val, 0]) S2x16x768.size chunk_inb (fun _ => rfl) rfl e e' h
theorem chunk_covers : Finset.univ.biUnion (fun e : Dev nD => (chunkR e).set) = Finset.univ :=
  Ring.lead_cover (s := S2x256x768) 1 16 (fun b : Fin 16 => ![0, 16 * b.val, 0]) S2x16x768.size chunk_inb (fun _ => rfl)
    (fun b a h => by fin_cases a <;> first | rfl | exact absurd rfl h) rfl (fun a h => by fin_cases a <;> first | rfl | exact absurd rfl h) rfl

variable (In : Dev nD → Ins F) (c : Dev nD)

theorem par_chunks (X : S2x256x768.Idx → Elt F .bf16) :
    owns (c : Thread nD τ) parM fullShare X
      ⊢ (iprop(parPts c (fwd c 0) (fun j => X ((chunkR (fwd c 0)).emb j)) ∗ bigSep (rem 1) fun k => parPts c (fwd c k) (fun j => X ((chunkR (fwd c k)).emb j))) : sProp 𝕄) := by
  refine (owns_rects (c : Thread nD τ) parM fullShare chunkR (fun _ _ => rfl) chunk_disjoint chunk_covers X).trans ?_
  rw [bigSep_univ_equiv (around c), sep_univ]
  exact .rfl

theorem par_whole (X : S2x256x768.Idx → Elt F .bf16) :
    (iprop(parPts c (fwd c 0) (fun j => X ((chunkR (fwd c 0)).emb j)) ∗ bigSep (rem 1) fun k => parPts c (fwd c k) (fun j => X ((chunkR (fwd c k)).emb j))) : sProp 𝕄)
      ⊢ owns (c : Thread nD τ) parM fullShare X := by
  refine BIBase.Entails.trans ?_ (owns_of_rects (c : Thread nD τ) parM fullShare chunkR (fun _ _ => rfl) chunk_disjoint chunk_covers X)
  rw [bigSep_univ_equiv (around c), sep_univ]
  exact .rfl

/-! ## The landing buffers -/

theorem slot_disjoint (k k' : Fin 16) (h : k ≠ k') : Disjoint (slotR k).set (slotR k').set :=
  Ring.lead_disjoint (s := S16x2x16x768) 0 1 (fun b : Fin 16 => ![b.val, 0, 0, 0]) S1x2x16x768.size slot_inb (fun b => (Nat.one_mul b.val).symm) rfl k k' h
theorem slot_covers : Finset.univ.biUnion (fun k : Fin 16 => (slotR k).set) = Finset.univ :=
  Ring.lead_cover (s := S16x2x16x768) 0 1 (fun b : Fin 16 => ![b.val, 0, 0, 0]) S1x2x16x768.size slot_inb (fun b => (Nat.one_mul b.val).symm)
    (fun b a h => by fin_cases a <;> first | rfl | exact absurd rfl h) rfl (fun a h => by fin_cases a <;> first | rfl | exact absurd rfl h) rfl

section Landing

variable (b : Ref sig .tc) (M : Memref sig .tc .vmem S16x2x16x768 .bf16)

abbrev slotOf (k : Fin 16) : Memref sig .tc .vmem S2x16x768 .bf16 := (M.slice (slotR k) (fun _ => rfl)).squeeze S2x16x768 squeezes_S1x2x16x768_S2x16x768

theorem slot_of_slice (k : Fin 16) (X : S1x2x16x768.Idx → Elt F .bf16) :
    owns (c : Thread nD τ) (M.slice (slotR k) (fun _ => rfl)) fullShare X ⊢ (iprop(∃ Y, owns (c : Thread nD τ) (slotOf M k) fullShare Y) : sProp 𝕄) := by
  unfold owns
  iintro ⟨%f, -, H⟩
  iexists _
  iexists f
  isplitr; · ipureintro; rfl
  rw [Memref.set_view_squeeze]; iexact H

theorem slot_block (k : Fin 16) :
    (iprop(∃ Y, owns (c : Thread nD τ) (slotOf M k) fullShare Y) : sProp 𝕄) ⊢ iprop(∃ f, M.view.loc (c : Thread nD τ) ↦[(M.view.slice (slotR k)).set]{fullShare} f) := by
  unfold owns
  iintro ⟨%Y, %f, -, H⟩
  iexists f
  rw [Memref.set_view_squeeze]; iexact H

theorem land_slots (f : M.view.ty.Contents (Elt F)) :
    (M.view.loc (c : Thread nD τ) ↦[M.view.set]{fullShare} f : sProp 𝕄)
      ⊢ iprop((∃ Y, owns (c : Thread nD τ) (slotOf M 0) fullShare Y) ∗ bigSep (rem 1) fun k => iprop(∃ Y, owns (c : Thread nD τ) (slotOf M k) fullShare Y)) := by
  rw [pointsTo_rects (c : Thread nD τ) M fullShare slotR (fun _ _ => rfl) slot_disjoint slot_covers f]
  refine (bigSep_mono fun k _ => slot_of_slice c M k _).trans ?_
  exact Entails.of_eq (sep_univ _)

theorem land_whole (hM : M.view.set = Finset.univ) (f₀ : Buf (Elt F) (M.view.loc (c : Thread nD τ))) :
    (iprop((∃ Y, owns (c : Thread nD τ) (slotOf M 0) fullShare Y) ∗ bigSep (rem 1) fun k => iprop(∃ Y, owns (c : Thread nD τ) (slotOf M k) fullShare Y)) : sProp 𝕄)
      ⊢ iprop(∃ f, M.view.loc (c : Thread nD τ) ↦{fullShare} f) := by
  refine (Entails.of_eq (sep_univ fun k => iprop(∃ Y, owns (c : Thread nD τ) (slotOf M k) fullShare Y)).symm).trans ?_
  have hd : ∀ k k' : Fin 16, k ≠ k' → Disjoint (M.view.slice (slotR k)).set (M.view.slice (slotR k')).set := fun k k' h => by
    rw [View.set_slice, View.set_slice]; exact (Finset.disjoint_map _).mpr (slot_disjoint k k' h)
  have hc : (Finset.univ : Finset (Fin 16)).biUnion (β := M.view.ty.Idx) (fun k => (M.view.slice (slotR k)).set) = Finset.univ := by
    rw [← hM]
    ext i; constructor
    · intro hi
      obtain ⟨k, -, hi⟩ := Finset.mem_biUnion.mp hi
      exact View.set_slice_subset _ _ hi
    · intro hi
      rw [View.set, Finset.mem_map] at hi
      obtain ⟨x, -, rfl⟩ := hi
      obtain ⟨k, -, hx⟩ := Finset.mem_biUnion.mp (slot_covers.symm ▸ Finset.mem_univ x)
      exact Finset.mem_biUnion.mpr ⟨k, Finset.mem_univ _, by rw [View.set_slice]; exact Finset.mem_map_of_mem _ hx⟩
  have hj := Ring.pointsTo_blocks_join_exists (nD := nD) (τ := τ) (sig := sig) (Ix := Unit) (Val := Elt F) (Name := ℕ) (U := UU) (Lvl := ℕ)
    (ℓ := M.view.loc (c : Thread nD τ)) (fun k : Fin 16 => (M.view.slice (slotR k)).set) hd hc (q := fullShare) f₀
  exact BIBase.Entails.trans (bigSep_mono fun k _ => slot_block c M k) hj

end Landing

/-! ## The reduced chunk -/

theorem red_gather (X : S2x16x768.Idx → Elt F .bf16) : ∀ n, 1 ≤ n → n ≤ 16 →
    (iprop(redPts c (restShare n) X ∗ bigSep (don n) fun k => redPts c (partShare k.val) X) : sProp 𝕄) ⊢ redPts c (restShare 1) X
  | 0, h, _ => absurd h (by decide)
  | 1, _, _ => by rw [sep_don_one]; iintro ⟨H, -⟩; iexact H
  | n + 2, _, h => by
    rw [sep_don (n := n + 1) (by omega) (by omega)]
    iintro ⟨Hr, Hp, Hd⟩
    iapply (red_gather X (n + 1) (by omega) (by omega))
    isplitr [Hd]
    · iapply (red_join c (n + 1) X)
      isplitl [Hp]; · iexact Hp
      iexact Hr
    iexact Hd

end Cert.AttnProof

end
-- ==== Proof.Phases.lean ====
/-
What a device holds before and after the kernel's body, and how its state passes from one phase of the body to the next: the
entry signals, the reduce-scatter's transfers and landings, the all-gather's, the waits for its own transfers to have left.
-/
module

public import proofs.«01_k».proof.Proof.Glue
public import proofs.«01_k».proof.Proof.Gen.KernelIdeal.Skeleton

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The printed device numbers and offsets -/

theorem devIs {v n : ℕ} (c : Dev nD) (h : n < 16) (hv : v < nD) (e : v = (c.val + n) % 16) : (⟨v, hv⟩ : Dev nD) = fwd c ⟨n, h⟩ := Fin.ext e
theorem off1Is (c : Dev nD) {n : ℕ} (h1 : 1 ≤ n) (h : n < 16) : k0_off1 c (BitVec.ofNat 32 n) = ![0, 16 * (fwd c ⟨n, h⟩).val, 0] := by
  obtain ⟨m, rfl⟩ : ∃ m, n = 1 + m := ⟨n - 1, by omega⟩
  have := k0_off1_eq c ⟨m, by omega⟩
  rw [this]
  show ![0, 16 * ((c.val + m + 1) % 16), 0] = ![0, 16 * ((c.val + (1 + m)) % 16), 0]
  rw [show c.val + m + 1 = c.val + (1 + m) by omega]
theorem off5Is (c : Dev nD) {n : ℕ} (h1 : 1 ≤ n) (h : n < 16) : k0_off5 c (BitVec.ofNat 32 n) = ![0, 16 * (bwd c ⟨n, h⟩).val, 0] := by
  obtain ⟨m, rfl⟩ : ∃ m, n = 1 + m := ⟨n - 1, by omega⟩
  have := k0_off5_eq c ⟨m, by omega⟩
  rw [this]
  show ![0, 16 * (((c.val + 15) - m) % 16), 0] = ![0, 16 * ((c.val + 16 - (1 + m)) % 16), 0]
  rw [show (c.val + 15) - m = c.val + 16 - (1 + m) by omega]

/-- A rule under persistent records, which stay with the state. -/
theorem keep {Rc A A' X Y : sProp 𝕄} [Persistent Rc] (h : iprop(Rc ∗ A) ⊢ iprop((A' -∗ X) -∗ Y)) :
    iprop(Rc ∗ A) ⊢ iprop(((Rc ∗ A') -∗ X) -∗ Y) := by
  iintro ⟨#HR, HA⟩ Hk
  iapply h $$ [HA]
  · isplitr; · iexact HR
    iexact HA
  iintro HA
  iapply Hk
  isplitr; · iexact HR
  iexact HA

section Buffers

variable {s : Shape} {e : EltTy} (c : Dev nD) (m : Memref sig .tc .vmem s e)

/-- A store whose place was read first, to no use. -/
theorem filled_put {L : List (View.Piece (Elt F) s e)} {r r' : Rect s} {w : r.shape.Idx → Elt F e} {hl : m.view.LoadsAt r'.toLoadRect}
    {hx : (m.access r).Stores Finset.univ} {hm : Finset.univ = Finset.univ ∨ ∀ a, r.stride a = 1}
    {α : Type} {Q : α → sProp 𝕄} {k : PUnit → Prog (TpuEff nD τ sig (Elt F) Λ₀ .tc) α} :
    filled c m L ⊢ iprop((filled c m (⟨r, w⟩ :: L) -∗ wpC c (k ⟨⟩) Q)
      -∗ wpC c (.op (.load m r'.toLoadRect hl) fun _ => .op (.store m r w Finset.univ hx hm) k) Q) := by
  iintro H Hk
  iapply (filled_load c m) $$ H
  iintro %v H
  iapply (filled_store c m) $$ H
  iintro H
  iapply Hk; iexact H

end Buffers

section Whole

variable (c : Dev nD) (b : Ref sig .tc)

/-- A whole buffer at some contents. -/
def held : sProp 𝕄 := iprop(∃ f : Buf (Elt F) ((c : Thread nD τ).loc b), ((c : Thread nD τ).loc b) ↦{fullShare} f)

theorem held_start {s : Shape} {e : EltTy} (m : Memref sig .tc .vmem s e) (hm : m.view.set = Finset.univ) :
    (iprop(∃ f : Buf (Elt F) (m.view.loc (c : Thread nD τ)), m.view.loc (c : Thread nD τ) ↦{fullShare} f) : sProp 𝕄) ⊢ filled c m [] := by
  iintro ⟨%f, H⟩
  iapply (filled_start c m f)
  rw [hm]; iexact H
theorem held_of_owns (X : b.ty.Contents (Elt F)) : owns (c : Thread nD τ) (Memref.whole b) fullShare X ⊢ (held c b : sProp 𝕄) := by
  rw [owns_whole]
  unfold held
  iintro H; iexists X; iexact H

end Whole

section Body

variable (In : Dev nD → Ins F) (K : Dev nD × CellIx → ℕ) (c : Dev nD)

/-- What the device holds of the schedule at the start: the duty tokens of the units it pays, its positions, -/
def ghostLin : sProp 𝕄 :=
  iprop((bigSep (rem 1) fun k => dutyTok EX (barCell (fwd c k)) 0 (neg k))
    ∗ (bigSep (rem 1) fun k => iprop(dutyTok EX (xCell 0 k c) 0 0 ∗ dutyTok EX (xCell 1 k (fwd c k)) 0 0))
    ∗ (bigSep (rem 1) fun k => iprop(dutyTok EX (xCell 2 k c) 0 0 ∗ dutyTok EX (xCell 3 k (fwd c k)) 0 0))
    ∗ atPos EX (barCell c) 0 ∅ 0
    ∗ bigSep Finset.univ (posItem 0 c) ∗ bigSep Finset.univ (posItem 1 c) ∗ bigSep Finset.univ (posItem 2 c) ∗ bigSep Finset.univ (posItem 3 c))
/-- and the credits of what the others pay it. -/
def credLin : sProp 𝕄 := iprop(cred (tallyAt (barCell c) () 15) ∗ bigSep (rem 1) (credItem 1 c) ∗ bigSep (rem 1) (credItem 3 c))

/-- The kernel's scratch buffers, at any contents. -/
def scratch : sProp 𝕄 :=
  iprop(held c cc0_scratch0 ∗ held c cc0_scratch1 ∗ held c cc0_scratch2 ∗ held c cc0_scratch3 ∗ held c cc0_scratch4 ∗ held c cc0_scratch5
    ∗ held c cc0_scratch6)

/-- The staging buffers of the inputs, at this device's. -/
def inputs (I : Ins F) : sProp 𝕄 :=
  iprop(owns (c : Thread nD τ) (Memref.whole cc0_stg0_0) fullShare I.x ∗ owns (c : Thread nD τ) (Memref.whole cc0_stg1_0) fullShare I.wq
    ∗ owns (c : Thread nD τ) (Memref.whole cc0_stg2_0) fullShare I.wk ∗ owns (c : Thread nD τ) (Memref.whole cc0_stg3_0) fullShare I.wv
    ∗ owns (c : Thread nD τ) (Memref.whole cc0_stg4_0) fullShare I.wo ∗ owns (c : Thread nD τ) (Memref.whole cc0_stg5_0) fullShare I.co
    ∗ owns (c : Thread nD τ) (Memref.whole cc0_stg6_0) fullShare I.si)

/-- The kernel's own semaphores' counters at zero, and the barrier's. -/
def sems0 : sProp 𝕄 :=
  iprop((bigSep Finset.univ fun k : Fin 16 => semVal (xCell 0 k c) 0) ∗ (bigSep Finset.univ fun k : Fin 16 => semVal (xCell 1 k c) 0)
    ∗ (bigSep Finset.univ fun k : Fin 16 => semVal (xCell 2 k c) 0) ∗ (bigSep Finset.univ fun k : Fin 16 => semVal (xCell 3 k c) 0)
    ∗ semVal (barCell c) 0)

abbrev outM : Memref sig .tc .vmem S2x256x768 .f32 := Memref.whole cc0_stg7_0

def bodyPre : sProp 𝕄 :=
  iprop(recsI In K ∗ ghostLin c ∗ credLin c ∗ scratch c ∗ oweSt c (O₀ c) ∗ inputs c (In c) ∗ held c cc0_stg7_0)
def bodyPost : sProp 𝕄 :=
  iprop(sems0 c ∗ scratch c ∗ oweSt c 0 ∗ inputs c (In c) ∗ owns (c : Thread nD τ) outM fullShare (outG In c))

/-- The program of the body as the launch calls it. -/
abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8 cc0_scratch9 cc0_scratch10

/-! ## Between the phases -/

theorem slots_in : (iprop(held c cc0_scratch5 ∗ held c cc0_scratch6) : sProp 𝕄)
    ⊢ iprop(slots c 0 ∗ bigSep (rem 1) fun k => slots c (neg k)) := by
  rw [sep_rem_neg (fun k => slots c k)]
  unfold held slots
  rw [bigSep_sep']
  iintro ⟨⟨%f, H5⟩, ⟨%g, H6⟩⟩
  ihave A := (land_slots c rsM f) $$ [H5]
  · rw [show rsM.view.set = Finset.univ from View.set_whole _]; iexact H5
  ihave B := (land_slots c agM g) $$ [H6]
  · rw [show agM.view.set = Finset.univ from View.set_whole _]; iexact H6
  icases A with ⟨A0, A⟩
  icases B with ⟨B0, B⟩
  isplitl [A0 B0]
  · isplitl [A0]; · iexact A0
    iexact B0
  isplitl [A]; · iexact A
  iexact B

theorem sig_start : (iprop(oweSt c (O₀ c) ∗ (bigSep (rem 1) fun k => dutyTok EX (barCell (fwd c k)) 0 (neg k)) ∗ bigSep (rem 1) fun k => slots c (neg k)) : sProp 𝕄)
    ⊢ SigSt c 1 := by
  unfold SigSt sigItem O₀
  rw [bigSep_sep']

/-- The partial product's chunks, but the device's own, and the reduce-scatter's landing slots: what its transfers take. -/
theorem rs_start : (iprop(oweSt c (oX 1 c 1 + oX 3 c 1) ∗ owns (c : Thread nD τ) parM fullShare (In c).parG
      ∗ (bigSep (rem 1) fun k => iprop(dutyTok EX (xCell 0 k c) 0 0 ∗ dutyTok EX (xCell 1 k (fwd c k)) 0 0))
      ∗ bigSep (rem 1) fun j => slots (fwd c j) j) : sProp 𝕄)
    ⊢ iprop(RsSt (pieceG In) c 1 ∗ parPts c (fwd c 0) (pieceG In c (fwd c 0)) ∗ bigSep (rem 1) fun k => iprop(∃ X, agPts (fwd c k) k X)) := by
  unfold RsSt slots rsItem
  simp only [sep_don_one, bigSep_sep']
  iintro ⟨HO, Hp, Ht, Hr, Ha⟩
  ihave Hp' := (par_chunks c (In c).parG) $$ Hp
  icases Hp' with ⟨Hp0, Hp⟩
  isplitl [HO Hp Ht Hr]
  · isplitl [HO]; · iexact HO
    isplitl
    · isplitl [Hp]; · iexact Hp
      isplitl [Hr]; · iexact Hr
      iexact Ht
    iempintro
  isplitl [Hp0]; · iexact Hp0
  iexact Ha

theorem wait_items (a : Fin 4) : (iprop(bigSep (rem 1) (credItem a c) ∗ bigSep (rem 1) (posItem a c)) : sProp 𝕄) ⊢ bigSep (rem 1) (waitItem a c) := by
  unfold waitItem; rw [bigSep_sep']

/-- The sum's state before the landings, with the send credits of the transfers started. -/
theorem rs_landing : (iprop(RsSt (pieceG In) c 16 ∗ bigSep (rem 1) (credItem 1 c) ∗ bigSep (rem 1) (posItem 1 c)) : sProp 𝕄)
    ⊢ iprop(WaitSt (pieceG In) (redG In) 1 c (oX 3 c 1) 1 ∗ bigSep (rem 1) (credItem 0 c)) := by
  unfold RsSt WaitSt
  rw [sep_don_one, don_end, oX_end, zero_add]
  iintro ⟨⟨HO, -, H0⟩, Hc, Hp⟩
  ihave Hw := (wait_items c 1) $$ [Hc Hp]
  · isplitl [Hc] <;> iassumption
  isplitr [H0]
  · isplitl [HO]; · iexact HO
    isplitl [Hw]; · iexact Hw
    iempintro
  iexact H0

theorem rs_landed : (bigSep (rem 1) fun k => xPay (pieceG In) (redG In) c 1 k : sProp 𝕄)
    ⊢ bigSep (rem 1) fun k => iprop(∃ X, owns (c : Thread nD τ) (rsSlot k) fullShare X) :=
  bigSep_mono fun k _ => by
    rw [xPay_rs]
    exact exists_intro_trans (Ψ := fun X => (owns (c : Thread nD τ) (rsSlot k) fullShare X : sProp 𝕄)) _ (Entails.of_eq rfl)
theorem rs_done : (WaitSt (pieceG In) (redG In) 1 c (oX 3 c 1) 16 : sProp 𝕄)
    ⊢ iprop(oweSt c (oX 3 c 1) ∗ (bigSep (rem 1) fun k => atPos EX (xCell 1 k c) 1 ∅ 0) ∗ bigSep (rem 1) fun k => iprop(∃ X, owns (c : Thread nD τ) (rsSlot k) fullShare X)) := by
  unfold WaitSt gotItem
  rw [don_end, bigSep_sep']
  iintro ⟨HO, -, Ha, Hx⟩
  isplitl [HO]; · iexact HO
  isplitl [Ha]; · iexact Ha
  iapply (rs_landed In c) $$ Hx

theorem ag_start : (iprop(oweSt c (oX 3 c 1) ∗ owns (c : Thread nD τ) redM fullShare (redG In c)
      ∗ (bigSep (rem 1) fun k => iprop(dutyTok EX (xCell 2 k c) 0 0 ∗ dutyTok EX (xCell 3 k (fwd c k)) 0 0))
      ∗ bigSep (rem 1) fun k => iprop(∃ X, agPts (fwd c k) k X)) : sProp 𝕄)
    ⊢ iprop(AgSt (redG In) c 1 ∗ redPts c (partShare 0) (redG In c)) := by
  unfold AgSt agItem
  rw [sep_don_one, bigSep_sep' (rem 1) (fun k => iprop(∃ X, agPts (fwd c k) k X))]
  iintro ⟨HO, Hr, Ht, Ha⟩
  ihave Hr' := (red_split c 0 (redG In c)) $$ [Hr]
  · unfold redPts; iexact Hr
  icases Hr' with ⟨Hr0, Hr⟩
  isplitr [Hr0]
  · isplitl [HO]; · iexact HO
    isplitl [Hr]; · iexact Hr
    isplitl
    · isplitl [Ha]; · iexact Ha
      iexact Ht
    iempintro
  iexact Hr0

theorem ag_landing : (iprop(AgSt (redG In) c 16 ∗ bigSep (rem 1) (credItem 3 c) ∗ bigSep (rem 1) (posItem 3 c)) : sProp 𝕄)
    ⊢ iprop(WaitSt (pieceG In) (redG In) 3 c 0 1 ∗ redPts c (restShare 16) (redG In c) ∗ bigSep (rem 1) (credItem 2 c)) := by
  unfold AgSt WaitSt
  rw [sep_don_one, don_end, oX_end]
  iintro ⟨⟨HO, Hr, -, H0⟩, Hc, Hp⟩
  ihave Hw := (wait_items c 3) $$ [Hc Hp]
  · isplitl [Hc] <;> iassumption
  isplitr [H0 Hr]
  · isplitl [HO]; · iexact HO
    isplitl [Hw]; · iexact Hw
    iempintro
  isplitl [Hr]; · iexact Hr
  iexact H0

theorem ag_landed : (bigSep (rem 1) fun k => xPay (pieceG In) (redG In) c 3 k : sProp 𝕄)
    ⊢ bigSep (rem 1) fun k => iprop(∃ X, owns (c : Thread nD τ) (agSlot k) fullShare X) :=
  bigSep_mono fun k _ => by
    rw [xPay_ag]
    exact exists_intro_trans (Ψ := fun X => (owns (c : Thread nD τ) (agSlot k) fullShare X : sProp 𝕄)) _ (Entails.of_eq rfl)
theorem ag_done : (WaitSt (pieceG In) (redG In) 3 c 0 16 : sProp 𝕄)
    ⊢ iprop(oweSt c 0 ∗ (bigSep (rem 1) fun k => atPos EX (xCell 3 k c) 1 ∅ 0) ∗ bigSep (rem 1) fun k => iprop(∃ X, owns (c : Thread nD τ) (agSlot k) fullShare X)) := by
  unfold WaitSt gotItem
  rw [don_end, bigSep_sep']
  iintro ⟨HO, -, Ha, Hx⟩
  isplitl [HO]; · iexact HO
  isplitl [Ha]; · iexact Ha
  iapply (ag_landed In c) $$ Hx

theorem drain_start (a : Fin 4) : (iprop(oweSt c 0 ∗ bigSep (rem 1) (credItem a c) ∗ bigSep (rem 1) (posItem a c)) : sProp 𝕄)
    ⊢ WaitSt (pieceG In) (redG In) a c 0 1 := by
  unfold WaitSt
  rw [sep_don_one]
  iintro ⟨HO, Hc, Hp⟩
  isplitl [HO]; · iexact HO
  isplitl
  · iapply (wait_items c a)
    isplitl [Hc] <;> iassumption
  iempintro
theorem drain_done (a : Fin 4) : (WaitSt (pieceG In) (redG In) a c 0 16 : sProp 𝕄)
    ⊢ iprop(oweSt c 0 ∗ (bigSep (rem 1) fun k => atPos EX (xCell a k c) 1 ∅ 0) ∗ bigSep (rem 1) fun k => xPay (pieceG In) (redG In) c a k) := by
  unfold WaitSt gotItem
  rw [don_end, bigSep_sep']
  iintro ⟨HO, -, Ha, Hx⟩
  isplitl [HO]; · iexact HO
  isplitl [Ha]; · iexact Ha
  iexact Hx

/-- The partial product whole again, -/
theorem par_back : (iprop(parPts c (fwd c 0) (pieceG In c (fwd c 0)) ∗ bigSep (rem 1) fun k => xPay (pieceG In) (redG In) c 0 k) : sProp 𝕄) ⊢ held c cc0_scratch0 :=
  BIBase.Entails.trans (par_whole c (In c).parG) (held_of_owns c cc0_scratch0 _)
/-- the reduced chunk, -/
theorem red_back : (iprop(redPts c (partShare 0) (redG In c) ∗ redPts c (restShare 16) (redG In c) ∗ bigSep (rem 1) fun k => xPay (pieceG In) (redG In) c 2 k) : sProp 𝕄)
    ⊢ held c cc0_scratch2 := by
  iintro ⟨H0, Hr, Hx⟩
  iapply (held_of_owns c cc0_scratch2 (redG In c))
  iapply (show redPts c (restShare 0) (redG In c) ⊢ (owns (c : Thread nD τ) (Memref.whole cc0_scratch2) fullShare (redG In c) : sProp 𝕄) from Entails.of_eq rfl)
  iapply (red_join c 0 (redG In c))
  isplitl [H0]; · iexact H0
  iapply (red_gather c (redG In c) 16 (by decide) le_rfl)
  isplitl [Hr]; · iexact Hr
  rw [don_end]; iexact Hx
/-- and the landing buffers. -/
theorem rs_back : (iprop((∃ Y, owns (c : Thread nD τ) (rsSlot 0) fullShare Y) ∗ bigSep (rem 1) fun k => iprop(∃ Y, owns (c : Thread nD τ) (rsSlot k) fullShare Y)) : sProp 𝕄)
    ⊢ held c cc0_scratch5 := land_whole c rsM (View.set_whole _) (fun _ => Classical.arbitrary _)
theorem ag_back : (iprop((∃ Y, owns (c : Thread nD τ) (agSlot 0) fullShare Y) ∗ bigSep (rem 1) fun k => iprop(∃ Y, owns (c : Thread nD τ) (agSlot k) fullShare Y)) : sProp 𝕄)
    ⊢ held c cc0_scratch6 := land_whole c agM (View.set_whole _) (fun _ => Classical.arbitrary _)

/-! ## Closing the cells -/

variable (P : Dev nD → Dev nD → S2x16x768.Idx → Elt F .bf16) (R : Dev nD → S2x16x768.Idx → Elt F .bf16)

theorem close_bar : iprop(recs P R K ∗ atPos EX (barCell c) 1 ∅ 0) ⊢ (|={Set.univ}=> semVal (barCell c) 0 : sProp 𝕄) := by
  iintro ⟨#HR, Hat⟩
  iapply (Rounds.cell_close EX (Rd P R) (Set.mem_univ (K (c, none))) (fun h => h) (R := 1) (duties_later P R (barCell c)))
  isplitr; · iapply (recs_inv P R K (c, none)); iexact HR
  iexact Hat
theorem close_x (a : Fin 4) (k : Fin 16) (r : ℕ) (hr : ∀ r', r ≤ r' → (Rd (F := F) P R).duties (xCell a k c) r' = ∅) :
    iprop(recs P R K ∗ atPos EX (xCell a k c) r ∅ 0) ⊢ (|={Set.univ}=> semVal (xCell a k c) 0 : sProp 𝕄) := by
  iintro ⟨#HR, Hat⟩
  iapply (Rounds.cell_close EX (Rd P R) (Set.mem_univ (K (c, some (a, k)))) (fun h => h) (R := r) hr)
  isplitr; · iapply (recs_inv P R K (c, some (a, k))); iexact HR
  iexact Hat

/-- All sixteen of array `a`: number 0 was never used. -/
theorem close_array (a : Fin 4) : iprop(recs P R K ∗ posItem a c 0 ∗ bigSep (rem 1) fun k => atPos EX (xCell a k c) 1 ∅ 0)
    ⊢ (|={Set.univ}=> bigSep Finset.univ fun k : Fin 16 => semVal (xCell a k c) 0 : sProp 𝕄) := by
  iintro ⟨#HR, H0, Hk⟩
  imod (close_x K c P R a 0 0 (fun r' _ => duties_x0 P R c a r')) $$ [H0] with H0
  · isplitr; · iexact HR
    unfold posItem; iexact H0
  imod (show iprop(recs P R K ∗ bigSep (rem 1) fun k => atPos EX (xCell a k c) 1 ∅ 0) ⊢ (|={Set.univ}=> bigSep (rem 1) fun k : Fin 16 => semVal (xCell a k c) 0 : sProp 𝕄) from by
      refine BIBase.Entails.trans ?_ (bigSep_fupd _ _)
      refine (sep_mono_left (BI.bigSep_of_persistent (rem 1) (recs P R K))).trans ?_
      rw [← bigSep_sep']
      exact bigSep_mono fun k _ => close_x K c P R a k 1 (duties_later P R _)) $$ [Hk] with Hk
  · isplitr; · iexact HR
    iexact Hk
  imodintro
  rw [sep_univ]
  isplitl [H0]; · iexact H0
  iexact Hk

end Body

end Cert.AttnProof

end
-- ==== Proof.Body.lean ====
/-
The kernel's body on one device, from the state its launch leaves it in: the entry barrier, the attention of its heads, the
partial product, the reduce-scatter, the all-gather, and the waits for its own transfers to have left.
-/
module

public import proofs.«01_k».proof.Proof.Phases
public import proofs.«01_k».proof.Proof.Gen.KernelIdeal.Skeleton

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (In : Dev nD → Ins F) (K : Dev nD × CellIx → ℕ) (c : Dev nD)

theorem with_recs {A : sProp 𝕄} : iprop(recsI In K ∗ A) ⊢ iprop(recsI In K ∗ A) := Entails.of_eq rfl

/-- The same stores under the names of their values. -/
theorem filled_as {s : Shape} {e : EltTy} {m : Memref sig .tc .vmem s e} {L : List (View.Piece (Elt F) s e)} (L' : List (View.Piece (Elt F) s e)) (h : L = L') :
    (filled c m L : sProp 𝕄) ⊢ filled c m L' := by rw [h]

theorem held_ref {s : Shape} {e : EltTy} (b : Ref sig .tc) (m : Memref sig .tc .vmem s e)
    (hm : m.view.set = Finset.univ) (hb : (held c b : sProp 𝕄) = iprop(∃ f : Buf (Elt F) (m.view.loc (c : Thread nD τ)), m.view.loc (c : Thread nD τ) ↦{fullShare} f)) :
    (held c b : sProp 𝕄) ⊢ filled c m [] := by rw [hb]; exact held_start c m hm

theorem credit_red : redM.view.dmaCredit = N := rfl

/-- The chunk a device keeps goes to its own place in the result. -/
theorem out_first (outM : Memref sig .tc .vmem S2x256x768 .f32) {off : Fin 3 → ℕ} (hoff : off = ![0, 16 * c.val, 0])
    {inb : ∀ a, off a + S2x16x768.size a ≤ S2x256x768.size a} {X : S2x16x768.Idx → Elt F .f32} (hX : X = accG In c 16) :
    (filled c outM [⟨Rect.unit (s := S2x256x768) off S2x16x768.size inb, X⟩] : sProp 𝕄) ⊢ filled c outM (outL In c 1) := by
  subst hoff hX; exact Entails.of_eq rfl

theorem red_full {off : Fin 3 → ℕ} {inb : ∀ a, off a + S2x16x768.size a ≤ S2x16x768.size a} (h : off = fun _ => 0) (X : S2x16x768.Idx → Elt F .bf16) :
    (filled c redM [⟨Rect.unit (s := S2x16x768) off S2x16x768.size inb, X⟩] : sProp 𝕄) ⊢ owns (c : Thread nD τ) redM fullShare X := by
  refine (owns_of_filled c redM (full_cover h X [])).trans ?_
  rw [View.canon_unit_zero h inb X]

set_option maxHeartbeats 2000000 in
set_option maxRecDepth 65536 in
theorem sound_body : bodyPre In K c ⊢ wpC c theBody (fun _ => bodyPost In c) := by
  unfold theBody
  simp only [cc0_body_eq_skeleton]; unfold cc0_body_skel
  simp only [k0_part46_eq_skeleton]; unfold k0_part46_skel
  simp only [k0_part1_eq_skeleton, k0_part1_skel, k0_part2_eq_skeleton, k0_part2_skel, k0_part3_eq_skeleton, k0_part3_skel,
    semSignalWord, semWaitWord, Prog.lift, Prog.bind_op, Prog.bind_ret, Prog.pure_eq_ret, wp_deviceId]
  unfold bodyPre ghostLin credLin scratch inputs
  iintro ⟨#HR, ⟨Htb, Ht1, Ht2, Hatb, Hp0, Hp1, Hp2, Hp3⟩, ⟨Hcb, Hc1, Hc3⟩, ⟨Hpar, Hpf, Hred, Hctx, Hacc, Hrs, Hag⟩, HO,
    ⟨Hx, Hwq, Hwk, Hwv, Hwo, Hco, Hsi⟩, Hout⟩
  -- the entry barrier
  ihave Hsl := (slots_in (F := F) c) $$ [Hrs Hag]
  · isplitl [Hrs] <;> iassumption
  icases Hsl with ⟨Hs0, Hsl⟩
  ihave HS := (sig_start (F := F) c) $$ [HO Htb Hsl]
  · isplitl [HO]; · iexact HO
    isplitl [Htb]; · iexact Htb
    iexact Hsl
  ihave HS := (with_recs In K) $$ [HS]
  · isplitr; · iexact HR
    iexact HS
  iapply (keep (sig_step _ _ K c 1 (by decide) (by decide) (devIs c _ _ (k0_dev1_eq c)) rfl)) $$ HS; iintro HS
  iapply (keep (sig_step _ _ K c 2 (by decide) (by decide) (devIs c _ _ (k0_dev2_eq c)) rfl)) $$ HS; iintro HS
  iapply (keep (sig_step _ _ K c 3 (by decide) (by decide) (devIs c _ _ (k0_dev3_eq c)) rfl)) $$ HS; iintro HS
  iapply (keep (sig_step _ _ K c 4 (by decide) (by decide) (devIs c _ _ (k0_dev4_eq c)) rfl)) $$ HS; iintro HS
  iapply (keep (sig_step _ _ K c 5 (by decide) (by decide) (devIs c _ _ (k0_dev5_eq c)) rfl)) $$ HS; iintro HS
  iapply (keep (sig_step _ _ K c 6 (by decide) (by decide) (devIs c _ _ (k0_dev6_eq c)) rfl)) $$ HS; iintro HS
  iapply (keep (sig_step _ _ K c 7 (by decide) (by decide) (devIs c _ _ (k0_dev7_eq c)) rfl)) $$ HS; iintro HS
  iapply (keep (sig_step _ _ K c 8 (by decide) (by decide) (devIs c _ _ (k0_dev8_eq c)) rfl)) $$ HS; iintro HS
  iapply (keep (sig_step _ _ K c 9 (by decide) (by decide) (devIs c _ _ (k0_dev9_eq c)) rfl)) $$ HS; iintro HS
  iapply (keep (sig_step _ _ K c 10 (by decide) (by decide) (devIs c _ _ (k0_dev10_eq c)) rfl)) $$ HS; iintro HS
  iapply (keep (sig_step _ _ K c 11 (by decide) (by decide) (devIs c _ _ (k0_dev11_eq c)) rfl)) $$ HS; iintro HS
  iapply (keep (sig_step _ _ K c 12 (by decide) (by decide) (devIs c _ _ (k0_dev12_eq c)) rfl)) $$ HS; iintro HS
  iapply (keep (sig_step _ _ K c 13 (by decide) (by decide) (devIs c _ _ (k0_dev13_eq c)) rfl)) $$ HS; iintro HS
  iapply (keep (sig_step _ _ K c 14 (by decide) (by decide) (devIs c _ _ (k0_dev14_eq c)) rfl)) $$ HS; iintro HS
  iapply (keep (sig_step _ _ K c 15 (by decide) (by decide) (devIs c _ _ (k0_dev15_eq c)) rfl)) $$ HS; iintro HS
  icases HS with ⟨-, HS⟩
  iapply (bar_step _ _ K c rfl) $$ [HS Hcb Hatb]
  · isplitr; · iexact HR
    isplitl [HS]; · iexact HS
    isplitl [Hcb] <;> iassumption
  iintro ⟨HO, Hatb, Hsl⟩
  -- the attention of the device's heads
  iapply (owns_load_full c _ zero2) $$ Hco; iintro Hco
  iapply (owns_load_full c _ zero2) $$ Hsi; iintro Hsi
  simp only [k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    Prog.lift, Prog.bind_op, Prog.bind_ret, Prog.pure_eq_ret]
  iapply (owns_load_full c _ zero2) $$ Hwo; iintro Hwo
  iapply (owns_load_full c _ zero2) $$ Hwq; iintro Hwq
  iapply (owns_load_full c _ zero2) $$ Hwk; iintro Hwk
  iapply (owns_load_full c _ zero2) $$ Hwv; iintro Hwv
  iapply (owns_load c _) $$ Hx; iintro Hx
  ihave Hctx := (held_ref c cc0_scratch3 ctxM (View.set_whole _) rfl) $$ Hctx
  iapply (filled_put c ctxM) $$ Hctx; iintro Hctx
  iapply (filled_put c ctxM) $$ Hctx; iintro Hctx
  iapply (filled_put c ctxM) $$ Hctx; iintro Hctx
  iapply (filled_put c ctxM) $$ Hctx; iintro Hctx
  iapply (owns_load c _) $$ Hx; iintro Hx
  iapply (filled_put c ctxM) $$ Hctx; iintro Hctx
  iapply (filled_put c ctxM) $$ Hctx; iintro Hctx
  iapply (filled_put c ctxM) $$ Hctx; iintro Hctx
  iapply (filled_put c ctxM) $$ Hctx; iintro Hctx
  ihave Hctx := (filled_as c (In c).ctxL (by rfl)) $$ Hctx
  ihave Hctx := (owns_of_filled c ctxM (In c).ctx_cover) $$ Hctx
  -- its share of the projection
  ihave Hpf := (held_ref c cc0_scratch1 pfM (View.set_whole _) rfl) $$ Hpf
  ihave Hpar := (held_ref c cc0_scratch0 parM (View.set_whole _) rfl) $$ Hpar
  iapply (owns_load c ctxM) $$ Hctx; iintro Hctx
  iapply (filled_put c pfM) $$ Hpf; iintro Hpf
  iapply (filled_put c parM) $$ Hpar; iintro Hpar
  iapply (owns_load c ctxM) $$ Hctx; iintro Hctx
  iapply (filled_put c pfM) $$ Hpf; iintro Hpf
  iapply (filled_put c parM) $$ Hpar; iintro Hpar
  ihave Hpf := (filled_as c (In c).pfL (by rfl)) $$ Hpf
  ihave Hpf := (owns_of_filled c pfM (In c).pf_cover) $$ Hpf
  ihave Hpar := (filled_as c (In c).parL (by rfl)) $$ Hpar
  ihave Hpar := (owns_of_filled c parM (In c).par_cover) $$ Hpar
  -- the reduce-scatter's transfers
  ihave HS := (rs_start In c) $$ [HO Hpar Ht1 Hsl]
  · isplitl [HO]; · iexact HO
    isplitl [Hpar]; · iexact Hpar
    isplitl [Ht1] <;> iassumption
  icases HS with ⟨HS, Hpar0, Hsl⟩
  ihave HS := (with_recs In K) $$ [HS]
  · isplitr; · iexact HR
    iexact HS
  simp only [k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel,
    Prog.lift, Prog.bind_op, Prog.bind_ret, Prog.pure_eq_ret]
  iapply (keep (rs_step _ _ K c 1 (by decide) (by decide) (off1Is c (by decide) (by decide)) (devIs c _ _ (k0_dev16_eq c)) rfl rfl rfl)) $$ HS; iintro HS
  iapply (keep (rs_step _ _ K c 2 (by decide) (by decide) (off1Is c (by decide) (by decide)) (devIs c _ _ (k0_dev17_eq c)) rfl rfl rfl)) $$ HS; iintro HS
  iapply (keep (rs_step _ _ K c 3 (by decide) (by decide) (off1Is c (by decide) (by decide)) (devIs c _ _ (k0_dev18_eq c)) rfl rfl rfl)) $$ HS; iintro HS
  iapply (keep (rs_step _ _ K c 4 (by decide) (by decide) (off1Is c (by decide) (by decide)) (devIs c _ _ (k0_dev19_eq c)) rfl rfl rfl)) $$ HS; iintro HS
  iapply (keep (rs_step _ _ K c 5 (by decide) (by decide) (off1Is c (by decide) (by decide)) (devIs c _ _ (k0_dev20_eq c)) rfl rfl rfl)) $$ HS; iintro HS
  iapply (keep (rs_step _ _ K c 6 (by decide) (by decide) (off1Is c (by decide) (by decide)) (devIs c _ _ (k0_dev21_eq c)) rfl rfl rfl)) $$ HS; iintro HS
  iapply (keep (rs_step _ _ K c 7 (by decide) (by decide) (off1Is c (by decide) (by decide)) (devIs c _ _ (k0_dev22_eq c)) rfl rfl rfl)) $$ HS; iintro HS
  iapply (keep (rs_step _ _ K c 8 (by decide) (by decide) (off1Is c (by decide) (by decide)) (devIs c _ _ (k0_dev23_eq c)) rfl rfl rfl)) $$ HS; iintro HS
  iapply (keep (rs_step _ _ K c 9 (by decide) (by decide) (off1Is c (by decide) (by decide)) (devIs c _ _ (k0_dev24_eq c)) rfl rfl rfl)) $$ HS; iintro HS
  iapply (keep (rs_step _ _ K c 10 (by decide) (by decide) (off1Is c (by decide) (by decide)) (devIs c _ _ (k0_dev25_eq c)) rfl rfl rfl)) $$ HS; iintro HS
  iapply (keep (rs_step _ _ K c 11 (by decide) (by decide) (off1Is c (by decide) (by decide)) (devIs c _ _ (k0_dev26_eq c)) rfl rfl rfl)) $$ HS; iintro HS
  iapply (keep (rs_step _ _ K c 12 (by decide) (by decide) (off1Is c (by decide) (by decide)) (devIs c _ _ (k0_dev27_eq c)) rfl rfl rfl)) $$ HS; iintro HS
  iapply (keep (rs_step _ _ K c 13 (by decide) (by decide) (off1Is c (by decide) (by decide)) (devIs c _ _ (k0_dev28_eq c)) rfl rfl rfl)) $$ HS; iintro HS
  iapply (keep (rs_step _ _ K c 14 (by decide) (by decide) (off1Is c (by decide) (by decide)) (devIs c _ _ (k0_dev29_eq c)) rfl rfl rfl)) $$ HS; iintro HS
  iapply (keep (rs_step _ _ K c 15 (by decide) (by decide) (off1Is c (by decide) (by decide)) (devIs c _ _ (k0_dev30_eq c)) rfl rfl rfl)) $$ HS; iintro HS
  icases HS with ⟨-, HS⟩
  -- the device's own chunk, and the landings added to it
  ihave Hacc := (held_ref c cc0_scratch4 accM (View.set_whole _) rfl) $$ Hacc
  iapply (owns_load c pfM) $$ Hpf; iintro Hpf
  iapply (filled_put c accM) $$ Hacc; iintro Hacc
  iapply (owns_load c pfM) $$ Hpf; iintro Hpf
  iapply (filled_put c accM) $$ Hacc; iintro Hacc
  ihave Hacc := (filled_as c ((In c).acc0L c) (by rfl)) $$ Hacc
  ihave Hacc := (owns_of_filled c accM ((In c).acc0_cover c)) $$ Hacc
  ihave Hp1 := (Entails.of_eq (sep_univ (posItem (F := F) 1 c))) $$ Hp1
  icases Hp1 with ⟨Hp10, Hp1⟩
  ihave HS := (rs_landing In c) $$ [HS Hc1 Hp1]
  · isplitl [HS]; · iexact HS
    isplitl [Hc1] <;> iassumption
  icases HS with ⟨HS, Hc0⟩
  ihave HS := (show iprop(recsI In K ∗ WaitSt (pieceG In) (redG In) 1 c (oX 3 c 1) 1 ∗ owns (c : Thread nD τ) accM fullShare (View.canon ((In c).acc0L c)))
    ⊢ iprop(recsI In K ∗ RsW In c 1) from Entails.of_eq rfl) $$ [HS Hacc]
  · isplitr; · iexact HR
    isplitl [HS] <;> iassumption
  simp only [k0_part17_eq_skeleton, k0_part17_skel, k0_part18_eq_skeleton, k0_part18_skel, k0_part19_eq_skeleton, k0_part19_skel,
    k0_part20_eq_skeleton, k0_part20_skel, k0_part21_eq_skeleton, k0_part21_skel, k0_part22_eq_skeleton, k0_part22_skel,
    k0_part23_eq_skeleton, k0_part23_skel, k0_part24_eq_skeleton, k0_part24_skel, k0_part25_eq_skeleton, k0_part25_skel,
    Prog.lift, Prog.bind_op, Prog.bind_ret, Prog.pure_eq_ret]
  iapply (keep (rs_round In K c 1 (by decide) (by decide) rfl (credit_rs ⟨1, by decide⟩) rfl zero3 zero3 zero3 (by intros; rfl))) $$ HS; iintro HS
  iapply (keep (rs_round In K c 2 (by decide) (by decide) rfl (credit_rs ⟨2, by decide⟩) rfl zero3 zero3 zero3 (by intros; rfl))) $$ HS; iintro HS
  iapply (keep (rs_round In K c 3 (by decide) (by decide) rfl (credit_rs ⟨3, by decide⟩) rfl zero3 zero3 zero3 (by intros; rfl))) $$ HS; iintro HS
  iapply (keep (rs_round In K c 4 (by decide) (by decide) rfl (credit_rs ⟨4, by decide⟩) rfl zero3 zero3 zero3 (by intros; rfl))) $$ HS; iintro HS
  iapply (keep (rs_round In K c 5 (by decide) (by decide) rfl (credit_rs ⟨5, by decide⟩) rfl zero3 zero3 zero3 (by intros; rfl))) $$ HS; iintro HS
  iapply (keep (rs_round In K c 6 (by decide) (by decide) rfl (credit_rs ⟨6, by decide⟩) rfl zero3 zero3 zero3 (by intros; rfl))) $$ HS; iintro HS
  iapply (keep (rs_round In K c 7 (by decide) (by decide) rfl (credit_rs ⟨7, by decide⟩) rfl zero3 zero3 zero3 (by intros; rfl))) $$ HS; iintro HS
  iapply (keep (rs_round In K c 8 (by decide) (by decide) rfl (credit_rs ⟨8, by decide⟩) rfl zero3 zero3 zero3 (by intros; rfl))) $$ HS; iintro HS
  iapply (keep (rs_round In K c 9 (by decide) (by decide) rfl (credit_rs ⟨9, by decide⟩) rfl zero3 zero3 zero3 (by intros; rfl))) $$ HS; iintro HS
  iapply (keep (rs_round In K c 10 (by decide) (by decide) rfl (credit_rs ⟨10, by decide⟩) rfl zero3 zero3 zero3 (by intros; rfl))) $$ HS; iintro HS
  iapply (keep (rs_round In K c 11 (by decide) (by decide) rfl (credit_rs ⟨11, by decide⟩) rfl zero3 zero3 zero3 (by intros; rfl))) $$ HS; iintro HS
  iapply (keep (rs_round In K c 12 (by decide) (by decide) rfl (credit_rs ⟨12, by decide⟩) rfl zero3 zero3 zero3 (by intros; rfl))) $$ HS; iintro HS
  iapply (keep (rs_round In K c 13 (by decide) (by decide) rfl (credit_rs ⟨13, by decide⟩) rfl zero3 zero3 zero3 (by intros; rfl))) $$ HS; iintro HS
  iapply (keep (rs_round In K c 14 (by decide) (by decide) rfl (credit_rs ⟨14, by decide⟩) rfl zero3 zero3 zero3 (by intros; rfl))) $$ HS; iintro HS
  iapply (keep (rs_round In K c 15 (by decide) (by decide) rfl (credit_rs ⟨15, by decide⟩) rfl zero3 zero3 zero3 (by intros; rfl))) $$ HS; iintro HS
  ihave HS := (show iprop(recsI In K ∗ RsW In c 16) ⊢ iprop(recsI In K ∗ WaitSt (pieceG In) (redG In) 1 c (oX 3 c 1) 16 ∗ owns (c : Thread nD τ) accM fullShare (accG In c 16))
    from Entails.of_eq rfl) $$ HS
  icases HS with ⟨-, HS, Hacc⟩
  ihave HS := (rs_done In c) $$ HS
  icases HS with ⟨HO, Hp1, Hrs⟩
  -- the reduced chunk
  iapply (owns_load_full c accM zero3) $$ Hacc; iintro Hacc
  ihave Hred := (held_ref c cc0_scratch2 redM (View.set_whole _) rfl) $$ Hred
  iapply (filled_put c redM) $$ Hred; iintro Hred
  ihave Hred := (red_full c zero3 _) $$ Hred
  ihave Hout := (held_ref c cc0_stg7_0 outM (View.set_whole _) rfl) $$ Hout
  iapply (filled_put c outM) $$ Hout; iintro Hout
  ihave Hout := (out_first In c outM (k0_off4_eq c) rfl) $$ Hout
  -- the all-gather's transfers
  ihave HS := (ag_start In c) $$ [HO Hred Ht2 Hsl]
  · isplitl [HO]; · iexact HO
    isplitl [Hred]; · iexact Hred
    isplitl [Ht2] <;> iassumption
  icases HS with ⟨HS, Hred0⟩
  ihave HS := (with_recs In K) $$ [HS]
  · isplitr; · iexact HR
    iexact HS
  simp only [k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel,
    Prog.lift, Prog.bind_op, Prog.bind_ret, Prog.pure_eq_ret]
  iapply (keep (ag_step _ _ K c 1 (by decide) (by decide) (devIs c _ _ (k0_dev31_eq c)) rfl rfl rfl)) $$ HS; iintro HS
  iapply (keep (ag_step _ _ K c 2 (by decide) (by decide) (devIs c _ _ (k0_dev32_eq c)) rfl rfl rfl)) $$ HS; iintro HS
  iapply (keep (ag_step _ _ K c 3 (by decide) (by decide) (devIs c _ _ (k0_dev33_eq c)) rfl rfl rfl)) $$ HS; iintro HS
  iapply (keep (ag_step _ _ K c 4 (by decide) (by decide) (devIs c _ _ (k0_dev34_eq c)) rfl rfl rfl)) $$ HS; iintro HS
  iapply (keep (ag_step _ _ K c 5 (by decide) (by decide) (devIs c _ _ (k0_dev35_eq c)) rfl rfl rfl)) $$ HS; iintro HS
  iapply (keep (ag_step _ _ K c 6 (by decide) (by decide) (devIs c _ _ (k0_dev36_eq c)) rfl rfl rfl)) $$ HS; iintro HS
  iapply (keep (ag_step _ _ K c 7 (by decide) (by decide) (devIs c _ _ (k0_dev37_eq c)) rfl rfl rfl)) $$ HS; iintro HS
  iapply (keep (ag_step _ _ K c 8 (by decide) (by decide) (devIs c _ _ (k0_dev38_eq c)) rfl rfl rfl)) $$ HS; iintro HS
  iapply (keep (ag_step _ _ K c 9 (by decide) (by decide) (devIs c _ _ (k0_dev39_eq c)) rfl rfl rfl)) $$ HS; iintro HS
  iapply (keep (ag_step _ _ K c 10 (by decide) (by decide) (devIs c _ _ (k0_dev40_eq c)) rfl rfl rfl)) $$ HS; iintro HS
  iapply (keep (ag_step _ _ K c 11 (by decide) (by decide) (devIs c _ _ (k0_dev41_eq c)) rfl rfl rfl)) $$ HS; iintro HS
  iapply (keep (ag_step _ _ K c 12 (by decide) (by decide) (devIs c _ _ (k0_dev42_eq c)) rfl rfl rfl)) $$ HS; iintro HS
  iapply (keep (ag_step _ _ K c 13 (by decide) (by decide) (devIs c _ _ (k0_dev43_eq c)) rfl rfl rfl)) $$ HS; iintro HS
  iapply (keep (ag_step _ _ K c 14 (by decide) (by decide) (devIs c _ _ (k0_dev44_eq c)) rfl rfl rfl)) $$ HS; iintro HS
  iapply (keep (ag_step _ _ K c 15 (by decide) (by decide) (devIs c _ _ (k0_dev45_eq c)) rfl rfl rfl)) $$ HS; iintro HS
  icases HS with ⟨-, HS⟩
  -- its landings
  ihave Hp3 := (Entails.of_eq (sep_univ (posItem (F := F) 3 c))) $$ Hp3
  icases Hp3 with ⟨Hp30, Hp3⟩
  ihave HS := (ag_landing In c) $$ [HS Hc3 Hp3]
  · isplitl [HS]; · iexact HS
    isplitl [Hc3] <;> iassumption
  icases HS with ⟨HS, Hred, Hc2⟩
  ihave HS := (show iprop(recsI In K ∗ WaitSt (pieceG In) (redG In) 3 c 0 1 ∗ filled c outM (outL In c 1)) ⊢ iprop(recsI In K ∗ AgW In c outM 1)
    from Entails.of_eq rfl) $$ [HS Hout]
  · isplitr; · iexact HR
    isplitl [HS] <;> iassumption
  simp only [k0_part32_eq_skeleton, k0_part32_skel, k0_part33_eq_skeleton, k0_part33_skel, k0_part34_eq_skeleton, k0_part34_skel,
    k0_part35_eq_skeleton, k0_part35_skel, k0_part36_eq_skeleton, k0_part36_skel, k0_part37_eq_skeleton, k0_part37_skel,
    k0_part38_eq_skeleton, k0_part38_skel, k0_part39_eq_skeleton, k0_part39_skel,
    Prog.lift, Prog.bind_op, Prog.bind_ret, Prog.pure_eq_ret]
  iapply (keep (ag_round In K c outM 1 (by decide) (by decide) rfl (credit_ag ⟨1, by decide⟩) rfl (off5Is c (by decide) (by decide)) (by intros; rfl))) $$ HS; iintro HS
  iapply (keep (ag_round In K c outM 2 (by decide) (by decide) rfl (credit_ag ⟨2, by decide⟩) rfl (off5Is c (by decide) (by decide)) (by intros; rfl))) $$ HS; iintro HS
  iapply (keep (ag_round In K c outM 3 (by decide) (by decide) rfl (credit_ag ⟨3, by decide⟩) rfl (off5Is c (by decide) (by decide)) (by intros; rfl))) $$ HS; iintro HS
  iapply (keep (ag_round In K c outM 4 (by decide) (by decide) rfl (credit_ag ⟨4, by decide⟩) rfl (off5Is c (by decide) (by decide)) (by intros; rfl))) $$ HS; iintro HS
  iapply (keep (ag_round In K c outM 5 (by decide) (by decide) rfl (credit_ag ⟨5, by decide⟩) rfl (off5Is c (by decide) (by decide)) (by intros; rfl))) $$ HS; iintro HS
  iapply (keep (ag_round In K c outM 6 (by decide) (by decide) rfl (credit_ag ⟨6, by decide⟩) rfl (off5Is c (by decide) (by decide)) (by intros; rfl))) $$ HS; iintro HS
  iapply (keep (ag_round In K c outM 7 (by decide) (by decide) rfl (credit_ag ⟨7, by decide⟩) rfl (off5Is c (by decide) (by decide)) (by intros; rfl))) $$ HS; iintro HS
  iapply (keep (ag_round In K c outM 8 (by decide) (by decide) rfl (credit_ag ⟨8, by decide⟩) rfl (off5Is c (by decide) (by decide)) (by intros; rfl))) $$ HS; iintro HS
  iapply (keep (ag_round In K c outM 9 (by decide) (by decide) rfl (credit_ag ⟨9, by decide⟩) rfl (off5Is c (by decide) (by decide)) (by intros; rfl))) $$ HS; iintro HS
  iapply (keep (ag_round In K c outM 10 (by decide) (by decide) rfl (credit_ag ⟨10, by decide⟩) rfl (off5Is c (by decide) (by decide)) (by intros; rfl))) $$ HS; iintro HS
  iapply (keep (ag_round In K c outM 11 (by decide) (by decide) rfl (credit_ag ⟨11, by decide⟩) rfl (off5Is c (by decide) (by decide)) (by intros; rfl))) $$ HS; iintro HS
  iapply (keep (ag_round In K c outM 12 (by decide) (by decide) rfl (credit_ag ⟨12, by decide⟩) rfl (off5Is c (by decide) (by decide)) (by intros; rfl))) $$ HS; iintro HS
  iapply (keep (ag_round In K c outM 13 (by decide) (by decide) rfl (credit_ag ⟨13, by decide⟩) rfl (off5Is c (by decide) (by decide)) (by intros; rfl))) $$ HS; iintro HS
  iapply (keep (ag_round In K c outM 14 (by decide) (by decide) rfl (credit_ag ⟨14, by decide⟩) rfl (off5Is c (by decide) (by decide)) (by intros; rfl))) $$ HS; iintro HS
  iapply (keep (ag_round In K c outM 15 (by decide) (by decide) rfl (credit_ag ⟨15, by decide⟩) rfl (off5Is c (by decide) (by decide)) (by intros; rfl))) $$ HS; iintro HS
  ihave HS := (show iprop(recsI In K ∗ AgW In c outM 16) ⊢ iprop(recsI In K ∗ WaitSt (pieceG In) (redG In) 3 c 0 16 ∗ filled c outM (outL In c 16))
    from Entails.of_eq rfl) $$ HS
  icases HS with ⟨-, HS, Hout⟩
  ihave Hout := (owns_of_filled c outM (out_cover In c)) $$ Hout
  ihave HS := (ag_done In c) $$ HS
  icases HS with ⟨HO, Hp3, Hag⟩
  -- the device's own transfers have left
  simp only [k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel,
    Prog.lift, Prog.bind_op, Prog.bind_ret, Prog.pure_eq_ret]
  ihave Hp0 := (Entails.of_eq (sep_univ (posItem (F := F) 0 c))) $$ Hp0
  icases Hp0 with ⟨Hp00, Hp0⟩
  ihave HS := (drain_start In c 0) $$ [HO Hc0 Hp0]
  · isplitl [HO]; · iexact HO
    isplitl [Hc0] <;> iassumption
  ihave HS := (with_recs In K) $$ [HS]
  · isplitr; · iexact HR
    iexact HS
  iapply (keep (drain_step _ _ K 0 c 1 (by decide) (by decide) rfl (by rfl))) $$ HS; iintro HS
  iapply (keep (drain_step _ _ K 0 c 2 (by decide) (by decide) rfl (by rfl))) $$ HS; iintro HS
  iapply (keep (drain_step _ _ K 0 c 3 (by decide) (by decide) rfl (by rfl))) $$ HS; iintro HS
  iapply (keep (drain_step _ _ K 0 c 4 (by decide) (by decide) rfl (by rfl))) $$ HS; iintro HS
  iapply (keep (drain_step _ _ K 0 c 5 (by decide) (by decide) rfl (by rfl))) $$ HS; iintro HS
  iapply (keep (drain_step _ _ K 0 c 6 (by decide) (by decide) rfl (by rfl))) $$ HS; iintro HS
  iapply (keep (drain_step _ _ K 0 c 7 (by decide) (by decide) rfl (by rfl))) $$ HS; iintro HS
  iapply (keep (drain_step _ _ K 0 c 8 (by decide) (by decide) rfl (by rfl))) $$ HS; iintro HS
  iapply (keep (drain_step _ _ K 0 c 9 (by decide) (by decide) rfl (by rfl))) $$ HS; iintro HS
  iapply (keep (drain_step _ _ K 0 c 10 (by decide) (by decide) rfl (by rfl))) $$ HS; iintro HS
  iapply (keep (drain_step _ _ K 0 c 11 (by decide) (by decide) rfl (by rfl))) $$ HS; iintro HS
  iapply (keep (drain_step _ _ K 0 c 12 (by decide) (by decide) rfl (by rfl))) $$ HS; iintro HS
  iapply (keep (drain_step _ _ K 0 c 13 (by decide) (by decide) rfl (by rfl))) $$ HS; iintro HS
  iapply (keep (drain_step _ _ K 0 c 14 (by decide) (by decide) rfl (by rfl))) $$ HS; iintro HS
  iapply (keep (drain_step _ _ K 0 c 15 (by decide) (by decide) rfl (by rfl))) $$ HS; iintro HS
  icases HS with ⟨-, HS⟩
  ihave HS := (drain_done In c 0) $$ HS
  icases HS with ⟨HO, Hp0, Hx0⟩
  ihave Hp2 := (Entails.of_eq (sep_univ (posItem (F := F) 2 c))) $$ Hp2
  icases Hp2 with ⟨Hp20, Hp2⟩
  ihave HS := (drain_start In c 2) $$ [HO Hc2 Hp2]
  · isplitl [HO]; · iexact HO
    isplitl [Hc2] <;> iassumption
  ihave HS := (with_recs In K) $$ [HS]
  · isplitr; · iexact HR
    iexact HS
  iapply (keep (drain_step _ _ K 2 c 1 (by decide) (by decide) rfl credit_red)) $$ HS; iintro HS
  iapply (keep (drain_step _ _ K 2 c 2 (by decide) (by decide) rfl credit_red)) $$ HS; iintro HS
  iapply (keep (drain_step _ _ K 2 c 3 (by decide) (by decide) rfl credit_red)) $$ HS; iintro HS
  iapply (keep (drain_step _ _ K 2 c 4 (by decide) (by decide) rfl credit_red)) $$ HS; iintro HS
  iapply (keep (drain_step _ _ K 2 c 5 (by decide) (by decide) rfl credit_red)) $$ HS; iintro HS
  iapply (keep (drain_step _ _ K 2 c 6 (by decide) (by decide) rfl credit_red)) $$ HS; iintro HS
  iapply (keep (drain_step _ _ K 2 c 7 (by decide) (by decide) rfl credit_red)) $$ HS; iintro HS
  iapply (keep (drain_step _ _ K 2 c 8 (by decide) (by decide) rfl credit_red)) $$ HS; iintro HS
  iapply (keep (drain_step _ _ K 2 c 9 (by decide) (by decide) rfl credit_red)) $$ HS; iintro HS
  iapply (keep (drain_step _ _ K 2 c 10 (by decide) (by decide) rfl credit_red)) $$ HS; iintro HS
  iapply (keep (drain_step _ _ K 2 c 11 (by decide) (by decide) rfl credit_red)) $$ HS; iintro HS
  iapply (keep (drain_step _ _ K 2 c 12 (by decide) (by decide) rfl credit_red)) $$ HS; iintro HS
  iapply (keep (drain_step _ _ K 2 c 13 (by decide) (by decide) rfl credit_red)) $$ HS; iintro HS
  iapply (keep (drain_step _ _ K 2 c 14 (by decide) (by decide) rfl credit_red)) $$ HS; iintro HS
  iapply (keep (drain_step _ _ K 2 c 15 (by decide) (by decide) rfl credit_red)) $$ HS; iintro HS
  icases HS with ⟨-, HS⟩
  ihave HS := (drain_done In c 2) $$ HS
  icases HS with ⟨HO, Hp2, Hx2⟩
  -- every cell closes, every buffer is whole again
  imod (close_array K c (pieceG In) (redG In) 0) $$ [Hp00 Hp0] with Hz0
  · isplitr; · iexact HR
    isplitl [Hp00] <;> iassumption
  imod (close_array K c (pieceG In) (redG In) 1) $$ [Hp10 Hp1] with Hz1
  · isplitr; · iexact HR
    isplitl [Hp10] <;> iassumption
  imod (close_array K c (pieceG In) (redG In) 2) $$ [Hp20 Hp2] with Hz2
  · isplitr; · iexact HR
    isplitl [Hp20] <;> iassumption
  imod (close_array K c (pieceG In) (redG In) 3) $$ [Hp30 Hp3] with Hz3
  · isplitr; · iexact HR
    isplitl [Hp30] <;> iassumption
  imod (close_bar K c (pieceG In) (redG In)) $$ [Hatb] with Hzb
  · isplitr; · iexact HR
    iexact Hatb
  rw [wp_ret]; imodintro
  unfold bodyPost sems0 scratch inputs
  isplitl [Hz0 Hz1 Hz2 Hz3 Hzb]
  · isplitl [Hz0]; · iexact Hz0
    isplitl [Hz1]; · iexact Hz1
    isplitl [Hz2]; · iexact Hz2
    isplitl [Hz3] <;> iassumption
  unfold slots
  icases Hs0 with ⟨Hrs0, Hag0⟩
  isplitl [Hpar0 Hx0 Hpf Hred0 Hred Hx2 Hctx Hacc Hrs0 Hrs Hag0 Hag]
  · isplitl [Hpar0 Hx0]
    · iapply (par_back In c)
      isplitl [Hpar0] <;> iassumption
    isplitl [Hpf]; · iapply (held_of_owns c cc0_scratch1 _) $$ Hpf
    isplitl [Hred0 Hred Hx2]
    · iapply (red_back In c)
      isplitl [Hred0]; · iexact Hred0
      isplitl [Hred] <;> iassumption
    isplitl [Hctx]; · iapply (held_of_owns c cc0_scratch3 _) $$ Hctx
    isplitl [Hacc]; · iapply (held_of_owns c cc0_scratch4 _) $$ Hacc
    isplitl [Hrs0 Hrs]
    · iapply (rs_back c)
      isplitl [Hrs0] <;> iassumption
    iapply (ag_back c)
    isplitl [Hag0] <;> iassumption
  isplitl [HO]; · iexact HO
  isplitr [Hout]
  · isplitl [Hx]; · iexact Hx
    isplitl [Hwq]; · iexact Hwq
    isplitl [Hwk]; · iexact Hwk
    isplitl [Hwv]; · iexact Hwv
    isplitl [Hwo]; · iexact Hwo
    isplitl [Hco] <;> iassumption
  iexact Hout

end Body

end Cert.AttnProof

end
-- ==== Proof.Launch.lean ====
/-
The launch: the sixteen devices' cells allocated and their duty tokens dealt to the devices that pay them, the kernel's body
under the pipeline of its one grid point, and the run of the whole program.
-/
module

public import proofs.«01_k».proof.Proof.Body
public import proofs.«01_k».proof.Proof.Gen.KernelIdeal.Points
public import Idealize.ShloMosaic.Lib.Pipeline.CollectiveSegs

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over the cells and over the peers -/

theorem sep_option {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by
      ext o; cases o <;> simp,
    bigSep_insert (by simp), bigSep_map]
  rfl

theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- One for the barrier's and the four arrays'. -/
theorem sep_cells (Φ : CellIx → sProp 𝕄) :
    bigSep Finset.univ Φ = iprop(Φ none ∗ (bigSep Finset.univ fun k : Fin 16 => Φ (some (0, k))) ∗ (bigSep Finset.univ fun k : Fin 16 => Φ (some (1, k)))
      ∗ (bigSep Finset.univ fun k : Fin 16 => Φ (some (2, k))) ∗ bigSep Finset.univ fun k : Fin 16 => Φ (some (3, k))) := by
  rw [sep_option, bigSep_univ_prod, sep_four]

/-- Number 0 is dropped. -/
theorem sep_peers (Φ : Fin 16 → sProp 𝕄) : bigSep Finset.univ Φ ⊢ bigSep (rem 1) Φ := by
  exact bigSep_subset (Finset.subset_univ _)

theorem sep_rem_neg' (Φ : Fin 16 → sProp 𝕄) : bigSep (rem 1) Φ = bigSep (rem 1) fun k => Φ (neg k) := by
  conv_lhs => rw [← rem_neg, bigSep_map]
  rfl

/-- What every device has for each peer number goes, for number `k`, to the device `k` places before it. -/
theorem deal (Φ : Fin 16 → Dev nD → sProp 𝕄) :
    (bigSep Finset.univ fun c : Dev nD => bigSep (rem 1) fun k => Φ k c) = bigSep Finset.univ fun c : Dev nD => bigSep (rem 1) fun k => Φ k (fwd c k) := by
  have h (Ψ : Fin 16 → Dev nD → sProp 𝕄) : (bigSep Finset.univ fun c : Dev nD => bigSep (rem 1) fun k => Ψ k c) = bigSep (rem 1) fun k => bigSep Finset.univ fun c : Dev nD => Ψ k c := by
    unfold rem
    simp only [bigSep_filter]
    rw [bigSep_univ_comm]
    refine bigSep_congr fun k _ => ?_
    by_cases hk : 1 ≤ k.val
    · simp only [if_pos hk]
    · simp only [if_neg hk]; exact bigSep_emp_const _
  rw [h Φ, h fun k c => Φ k (fwd c k)]
  exact bigSep_congr fun k _ => bigSep_univ_equiv (turn k) (Φ k)

/-! ## The cells and the tokens -/

/-- The kernel's own semaphores. -/
def osem (ak : Fin 4 × Fin 16) : SemLoc sig := .dma (dsem ak.1 ak.2)

theorem ownSemFacts : Pipeline.OwnSemFacts cfg0.spec osem where
  isScoped := by decide +kernel
  inj := fun _ _ h => dsem_inj h
  disj := by decide +kernel

theorem csem_injective : Function.Injective csem := by
  rintro (_ | ⟨a, k⟩) (_ | ⟨a', k'⟩) h
  · rfl
  · exact absurd h.symm (dsem_ne_bar a' k')
  · exact absurd h (dsem_ne_bar a k)
  · exact congrArg some (dsem_inj h)

theorem gcell_injective : Function.Injective gcell := by
  rintro ⟨c, k⟩ ⟨c', k'⟩ h
  have h1 : c = c' := congrArg (fun g : GSem nD τ sig => g.1.1) h
  have h2 : k = k' := csem_injective (congrArg Prod.snd h)
  rw [h1, h2]

def xCells : Finset (GSem nD τ sig) := Finset.univ.map ⟨gcell, gcell_injective⟩

/-- The tokens minted for a device's own cells: each unit of its barrier's, each transfer's. -/
def tokOf (x : Dev nD × (Fin 16 ⊕ (Fin 4 × Fin 16))) : GSem nD τ sig × ℕ × Fin 16 := match x.2 with
  | .inl d => (barCell x.1, 0, d)
  | .inr ak => (xCell ak.1 ak.2 x.1, 0, 0)

theorem tokOf_injective : Function.Injective tokOf := by
  rintro ⟨c, d | ak⟩ ⟨c', d' | ak'⟩ h
  · have h1 : c = c' := congrArg (fun x : GSem nD τ sig × ℕ × Fin 16 => x.1.1.1) h
    have h2 : d = d' := congrArg (fun x : GSem nD τ sig × ℕ × Fin 16 => x.2.2) h
    rw [h1, h2]
  · exact absurd (congrArg (fun x : GSem nD τ sig × ℕ × Fin 16 => x.1.2) h).symm (dsem_ne_bar _ _)
  · exact absurd (congrArg (fun x : GSem nD τ sig × ℕ × Fin 16 => x.1.2) h) (dsem_ne_bar _ _)
  · have h1 : c = c' := congrArg (fun x : GSem nD τ sig × ℕ × Fin 16 => x.1.1.1) h
    have h2 : ak = ak' := dsem_inj (congrArg (fun x : GSem nD τ sig × ℕ × Fin 16 => x.1.2) h)
    rw [h1, h2]

def xToks : Finset (GSem nD τ sig × ℕ × Fin 16) := Finset.univ.map ⟨tokOf, tokOf_injective⟩

def u₀ : UU := (initOf (Pipeline.cells cfgs cellOf_inj) (Pipeline.launchToks cfgs cellOf_inj), initOf xCells xToks)

/-- The duty tokens of device `c`'s own cells, -/
def toks (c : Dev nD) : sProp 𝕄 :=
  iprop((bigSep Finset.univ fun d : Fin 16 => dutyTok EX (barCell c) 0 d) ∗ (bigSep Finset.univ fun k : Fin 16 => dutyTok EX (xCell 0 k c) 0 0)
    ∗ (bigSep Finset.univ fun k : Fin 16 => dutyTok EX (xCell 1 k c) 0 0) ∗ (bigSep Finset.univ fun k : Fin 16 => dutyTok EX (xCell 2 k c) 0 0)
    ∗ bigSep Finset.univ fun k : Fin 16 => dutyTok EX (xCell 3 k c) 0 0)
/-- those of them its peers do not pay into the void, -/
def peerToks (c : Dev nD) : sProp 𝕄 :=
  iprop((bigSep (rem 1) fun k => dutyTok EX (barCell c) 0 (neg k)) ∗ (bigSep (rem 1) fun k => dutyTok EX (xCell 0 k c) 0 0)
    ∗ (bigSep (rem 1) fun k => dutyTok EX (xCell 1 k c) 0 0) ∗ (bigSep (rem 1) fun k => dutyTok EX (xCell 2 k c) 0 0)
    ∗ bigSep (rem 1) fun k => dutyTok EX (xCell 3 k c) 0 0)
/-- and the tokens of the duties device `c` pays. -/
def payToks (c : Dev nD) : sProp 𝕄 :=
  iprop((bigSep (rem 1) fun k => dutyTok EX (barCell (fwd c k)) 0 (neg k)) ∗ (bigSep (rem 1) fun k => dutyTok EX (xCell 0 k c) 0 0)
    ∗ (bigSep (rem 1) fun k => dutyTok EX (xCell 1 k (fwd c k)) 0 0) ∗ (bigSep (rem 1) fun k => dutyTok EX (xCell 2 k c) 0 0)
    ∗ bigSep (rem 1) fun k => dutyTok EX (xCell 3 k (fwd c k)) 0 0)

theorem toks_peers (c : Dev nD) : (toks c : sProp 𝕄) ⊢ peerToks c := by
  unfold toks peerToks
  rw [← sep_rem_neg' fun d => (dutyTok EX (barCell c) 0 d : sProp 𝕄)]
  exact BI.sep_mono (sep_peers _) (BI.sep_mono (sep_peers _) (BI.sep_mono (sep_peers _) (BI.sep_mono (sep_peers _) (sep_peers _))))

theorem toks_around : (bigSep Finset.univ fun c : Dev nD => (toks c : sProp 𝕄)) ⊢ bigSep Finset.univ fun c : Dev nD => payToks c := by
  have h : (bigSep Finset.univ fun c : Dev nD => (toks c : sProp 𝕄)) ⊢ bigSep Finset.univ fun c : Dev nD => peerToks c := bigSep_mono fun c _ => toks_peers c
  refine BIBase.Entails.trans h (Entails.of_eq ?_)
  unfold peerToks payToks
  simp only [bigSep_sep']
  rw [deal fun k c => (dutyTok EX (barCell c) 0 (neg k) : sProp 𝕄), deal fun k c => (dutyTok EX (xCell 1 k c) 0 0 : sProp 𝕄),
    deal fun k c => (dutyTok EX (xCell 3 k c) 0 0 : sProp 𝕄)]

section Run

variable (m : (a : Loc nD τ sig) → Buf (Elt F) a) (ρ : Dev nD → PrngReg)

/-- The memory at launch. -/
def s₀ : MemSt nD τ sig (Elt F) := ⟨m, fun _ => 0, ρ⟩

/-- A device's inputs, as staged. -/
def ins (c : Dev nD) : Ins F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  wk := (win0_2.blk (0 : Fin 1)).view.read (Elt F) ((s₀ m ρ).mem ((c : Thread nD τ).loc main_arg2))
  wv := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))
  co := (win0_5.blk (0 : Fin 1)).view.read (Elt F) ((s₀ m ρ).mem ((c : Thread nD τ).loc main_arg5))
  si := (win0_6.blk (0 : Fin 1)).view.read (Elt F) ((s₀ m ρ).mem ((c : Thread nD τ).loc main_arg6))

abbrev PP : Dev nD → Dev nD → S2x16x768.Idx → Elt F .bf16 := pieceG (ins m ρ)
abbrev RR : Dev nD → S2x16x768.Idx → Elt F .bf16 := redG (ins m ρ)

/-- What the launch element deals device `c`. -/
def G (c : Dev nD) : sProp 𝕄 :=
  iprop((bigSep Finset.univ fun k : CellIx => roundState EX (Rd (PP m ρ) (RR m ρ)) (gcell (c, k)) 0)
    ∗ (bigSep Finset.univ fun k : CellIx => iprop(atPos EX (gcell (c, k)) 0 ∅ 0 ∗ reached EX (gcell (c, k)) 0)) ∗ toks c)

/-- The cells' records, without the levels. -/
def records (K : Dev nD × CellIx → ℕ) : sProp 𝕄 :=
  iprop((bigSep Finset.univ fun ck : Dev nD × CellIx => cellInv EX (Rd (PP m ρ) (RR m ρ)) (K ck) (gcell ck))
    ∗ bigSep Finset.univ fun ck : Dev nD × CellIx => reached EX (gcell ck) 0)

instance records_persistent (K : Dev nD × CellIx → ℕ) : BI.Persistent (records m ρ K) := by unfold records; infer_instance

def G' (c : Dev nD) : sProp 𝕄 := iprop(∃ K, records m ρ K ∗ ghostLin c)

theorem fund : BI.own (EX (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : CellIx => Φ (gcell (c, k)) := by
    unfold xCells; rw [bigSep_map, bigSep_univ_prod]; rfl
  have hT : bigSep xToks (fun x => (dutyTok EX x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_univ_prod, sep_four]; rfl
  iintro HX
  imod (Rounds.fund EX (Rd (PP m ρ) (RR m ρ)) xCells xToks) $$ HX with ⟨Hst, Hr, Hat, Htok⟩
  imodintro
  ihave Hst' := (Entails.of_eq (hX fun g => roundState EX (Rd (PP m ρ) (RR m ρ)) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun k : Fin 16 => semVal (xCell 0 k c) 0) ∗ (bigSep Finset.univ fun k : Fin 16 => semVal (xCell 1 k c) 0)
      ∗ (bigSep Finset.univ fun k : Fin 16 => semVal (xCell 2 k c) 0) ∗ bigSep Finset.univ fun k : Fin 16 => semVal (xCell 3 k c) 0) := by
  unfold Pipeline.ownSems0; rw [bigSep_univ_prod, sep_four]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem counters (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (gcell (c, k)) 0 : sProp 𝕄) := by
  rw [ownSems0_eq, unscopedSems0_eq, sep_cells]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (Rd (PP m ρ) (RR m ρ)) κ (gcell (c, k))))
          ∗ (bigSep Finset.univ fun k => iprop(atPos EX (gcell (c, k)) 0 ∅ 0 ∗ reached EX (gcell (c, k)) 0)) ∗ toks c) := by
  have h : iprop((bigSep Finset.univ fun k : CellIx => semVal (gcell (c, k)) 0) ∗ bigSep Finset.univ fun k : CellIx => roundState EX (Rd (PP m ρ) (RR m ρ)) (gcell (c, k)) 0)
      ⊢ (|={Set.univ}=> bigSep Finset.univ fun k => iprop(∃ κ : ℕ, cellInv EX (Rd (PP m ρ) (RR m ρ)) κ (gcell (c, k))) : sProp 𝕄) := by
    rw [← bigSep_sep']
    exact (bigSep_mono fun k _ => (Rounds.body_intro EX (Rd (PP m ρ) (RR m ρ)) (gcell (c, k))).trans inv_alloc).trans (bigSep_fupd _ _)
  unfold G
  iintro ⟨Hos, Hus, Hst, Hat, Htok⟩
  ihave Hv := (counters (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-- A device's positions and the tokens it pays with are its share. -/
theorem lin_intro (c : Dev nD) : iprop((bigSep Finset.univ fun k : CellIx => (atPos EX (gcell (c, k)) 0 ∅ 0 : sProp 𝕄)) ∗ payToks c) ⊢ ghostLin c := by
  rw [sep_cells]
  unfold payToks ghostLin
  simp only [bigSep_sep']
  iintro ⟨⟨HB, H0, H1, H2, H3⟩, Tb, T0, T1, T2, T3⟩
  isplitl [Tb]; · iexact Tb
  isplitl [T0 T1]
  · isplitl [T0] <;> iassumption
  isplitl [T2 T3]
  · isplitl [T2] <;> iassumption
  isplitl [HB]; · iexact HB
  isplitl [H0]; · iexact H0
  isplitl [H1]; · iexact H1
  isplitl [H2]; · iexact H2
  iexact H3

theorem share_intro (K : Dev nD × CellIx → ℕ) (c : Dev nD) : iprop(records m ρ K ∗ ghostLin c) ⊢ G' m ρ c := by
  unfold G'; iintro H; iexists K; iexact H

theorem regroup :
    (bigSep Finset.univ fun c : Dev nD => iprop((bigSep Finset.univ fun k => iprop(∃ κ : ℕ, cellInv EX (Rd (PP m ρ) (RR m ρ)) κ (gcell (c, k))))
          ∗ (bigSep Finset.univ fun k => iprop(atPos EX (gcell (c, k)) 0 ∅ 0 ∗ reached EX (gcell (c, k)) 0)) ∗ toks c) : sProp 𝕄)
      ⊢ bigSep Finset.univ (G' m ρ) := by
  have hlin : iprop((bigSep Finset.univ fun c : Dev nD => bigSep Finset.univ fun k : CellIx => (atPos EX (gcell (c, k)) 0 ∅ 0 : sProp 𝕄))
      ∗ bigSep Finset.univ fun c : Dev nD => payToks c) ⊢ bigSep Finset.univ fun c : Dev nD => (ghostLin c : sProp 𝕄) := by
    rw [← bigSep_sep']; exact bigSep_mono fun c _ => lin_intro c
  rw [bigSep_sep', bigSep_sep', ← bigSep_univ_prod (fun ck : Dev nD × CellIx => iprop(∃ κ : ℕ, cellInv EX (Rd (PP m ρ) (RR m ρ)) κ (gcell ck))),
    bigSep_congr (s := Finset.univ) (fun (c : Dev nD) _ => bigSep_sep' Finset.univ (fun k : CellIx => (atPos EX (gcell (c, k)) 0 ∅ 0 : sProp 𝕄)) (fun k => reached EX (gcell (c, k)) 0)),
    bigSep_sep', ← bigSep_univ_prod (fun ck : Dev nD × CellIx => (reached EX (gcell ck) 0 : sProp 𝕄))]
  iintro ⟨HI, ⟨Hat, #HR⟩, Htok⟩
  ihave HK := (BI.bigSep_exists_pi Finset.univ (fun (ck : Dev nD × CellIx) (κ : ℕ) => (cellInv EX (Rd (PP m ρ) (RR m ρ)) κ (gcell ck) : sProp 𝕄))) $$ HI
  icases HK with ⟨%K, #HI⟩
  ihave Htk := (toks_around (F := F)) $$ Htok
  iapply (BI.bigSep_with_persistent (R := records m ρ K) fun c _ => share_intro m ρ K c)
  isplitr
  · unfold records; isplitl; · iexact HI
    iexact HR
  · iapply hlin
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem cred_bar : ∀ s : Finset (Fin 16), ∀ c : Dev nD,
    (bigSep s fun _ => (cred (tallyAt (barCell c) () 1) : sProp 𝕄)) ⊢ cred (tallyAt (barCell c) () s.card) := by
  intro s c
  induction s using Finset.induction_on with
  | empty => rw [bigSep_empty, Finset.card_empty, tallyAt_zero, cred_zero]; exact Entails.of_eq rfl
  | insert a s ha ih =>
    rw [bigSep_insert ha, Finset.card_insert_of_notMem ha, Nat.add_comm, ← tallyAt_add]
    exact (sep_mono_right ih).trans (cred_add _ _).2

theorem creds (c : Dev nD) : (Pipeline.launchCred O₀ c : sProp 𝕄) ⊢ credLin c := by
  have hX : ∀ a : Fin 4, (Pipeline.launchCred (fun d => oX a d 1) c : sProp 𝕄) ⊢ bigSep (rem 1) (credItem a c) := by
    intro a
    unfold oX
    rw [Pipeline.launchCred_sum (rem 1) (fun k d => tallyAt (xCell a k (fwd d k)) () N) c]
    exact bigSep_mono fun k _ => Pipeline.launchCred_tallyAt (.dma (dsem a k)) (fun d => fwd d k) (fun d => bwd d k) (fun d => fwd_bwd d k) (fun d => bwd_fwd d k) () N c
  have hB : (Pipeline.launchCred (fun d => oBar d 1) c : sProp 𝕄) ⊢ cred (tallyAt (barCell c) () 15) := by
    unfold oBar
    rw [Pipeline.launchCred_sum (rem 1) (fun k d => tallyAt (barCell (fwd d k)) () 1) c]
    refine BIBase.Entails.trans (bigSep_mono fun k _ => Pipeline.launchCred_tallyAt (.reg barS) (fun d => fwd d k) (fun d => bwd d k) (fun d => fwd_bwd d k) (fun d => bwd_fwd d k) () 1 c) ?_
    exact cred_bar (rem 1) c
  have hsum : (O₀ : Dev nD → CellTallies nD τ sig Unit) = fun d => (oX 1 d 1 + oX 3 d 1) + oBar d 1 := rfl
  rw [hsum, Pipeline.launchCred_add (fun d => oX 1 d 1 + oX 3 d 1) (fun d => oBar d 1) c, Pipeline.launchCred_add (fun d => oX 1 d 1) (fun d => oX 3 d 1) c]
  unfold credLin
  iintro ⟨⟨H1, H3⟩, HB⟩
  ihave H1 := (hX 1) $$ H1
  ihave H3 := (hX 3) $$ H3
  ihave HB := hB $$ HB
  isplitl [HB]; · iexact HB
  isplitl [H1] <;> iassumption

/-! ## The body under the pipeline -/

/-- What device `c`'s body starts from, beside the scratch buffers. -/
def start (c : Dev nD) : sProp 𝕄 := iprop(G' m ρ c ∗ credLin c ∗ levAts L lv)
def Φ₀ (c : Dev nD) : sProp 𝕄 := iprop(start m ρ c ∗ scratch c)
def Φ₁ (c : Dev nD) : sProp 𝕄 := iprop(sems0 c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => (ins m ρ c).wq
    | ⟨2, _⟩ => (ins m ρ c).wk
    | ⟨3, _⟩ => (ins m ρ c).wv
    | ⟨4, _⟩ => (ins m ρ c).wo
    | ⟨5, _⟩ => (ins m ρ c).co
    | ⟨6, _⟩ => (ins m ρ c).si
    | ⟨7, _⟩ => outG (ins m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem before_in (c : Dev nD) (w : Fin cfg0.W) (t : Fin cfg0.N) (d : (cfg0.win w).block.Idx → Elt F (cfg0.win w).elt) (h : (cfg0.win w).fetch t = true) :
    (dats m ρ 0 c).before w t d = (dats m ρ 0 c).fetched w t d := by
  unfold Dat.before; rw [if_pos h]

/-- A staged input, or the output's buffer, under the name the body has for it. -/
theorem staged {s : Shape} {e : EltTy} (c : Dev nD) (M : Memref sig .tc .vmem s e) {D : Type} (X : D → s.Idx → Elt F e) (Y : s.Idx → Elt F e) (h : ∀ d, X d = Y) :
    (iprop(∃ d, owns (c : Thread nD τ) M fullShare (X d)) : sProp 𝕄) ⊢ owns (c : Thread nD τ) M fullShare Y := by
  iintro ⟨%d, H⟩; rw [h d]; iexact H
theorem staged_out (c : Dev nD) {D : Type} (X : D → S2x256x768.Idx → Elt F .f32) :
    (iprop(∃ d, owns (c : Thread nD τ) outM fullShare (X d)) : sProp 𝕄) ⊢ held c cc0_stg7_0 := by
  iintro ⟨%d, H⟩; iapply (held_of_owns c cc0_stg7_0 (X d)); iexact H

theorem recs_intro (K : Dev nD × CellIx → ℕ) : iprop(records m ρ K ∗ levAts L lv) ⊢ recsI (ins m ρ) K := by
  unfold records recsI recs
  iintro ⟨⟨H1, H2⟩, H3⟩
  isplitl [H1]; · iexact H1
  isplitl [H2] <;> iassumption

def pre' (c : Dev nD) : sProp 𝕄 :=
  iprop(Φ₀ m ρ c ∗ (dats m ρ 0 c).owesAt () t0_0.castSucc
    ∗ (∃ d, owns (c : Thread nD τ) (Memref.whole cc0_stg0_0) fullShare ((dats m ρ 0 c).before (0 : Fin 8) t0_0 d))
    ∗ (∃ d, owns (c : Thread nD τ) (Memref.whole cc0_stg1_0) fullShare ((dats m ρ 0 c).before (1 : Fin 8) t0_0 d))
    ∗ (∃ d, owns (c : Thread nD τ) (Memref.whole cc0_stg2_0) fullShare ((dats m ρ 0 c).before (2 : Fin 8) t0_0 d))
    ∗ (∃ d, owns (c : Thread nD τ) (Memref.whole cc0_stg3_0) fullShare ((dats m ρ 0 c).before (3 : Fin 8) t0_0 d))
    ∗ (∃ d, owns (c : Thread nD τ) (Memref.whole cc0_stg4_0) fullShare ((dats m ρ 0 c).before (4 : Fin 8) t0_0 d))
    ∗ (∃ d, owns (c : Thread nD τ) (Memref.whole cc0_stg5_0) fullShare ((dats m ρ 0 c).before (5 : Fin 8) t0_0 d))
    ∗ (∃ d, owns (c : Thread nD τ) (Memref.whole cc0_stg6_0) fullShare ((dats m ρ 0 c).before (6 : Fin 8) t0_0 d))
    ∗ (∃ d, owns (c : Thread nD τ) (Memref.whole cc0_stg7_0) fullShare ((dats m ρ 0 c).before (7 : Fin 8) t0_0 d)))
def post' (c : Dev nD) : sProp 𝕄 :=
  iprop(Φ₁ c ∗ (dats m ρ 0 c).owesAt () t0_0.succ ∗ inputs c (ins m ρ c) ∗ owns (c : Thread nD τ) outM fullShare (outG (ins m ρ) c))

theorem post_intro (c : Dev nD) : bodyPost (ins m ρ) c ⊢ post' m ρ c := by
  unfold bodyPost post' Φ₁ Dat.owesAt Pipeline.owesWithin oweSt
  rw [show (dats m ρ 0 c).owed t0_0.succ = 0 from rfl]
  iintro ⟨Hs, Hsc, ⟨%W, HO⟩, Hi, Ho⟩
  isplitl [Hs Hsc]
  · isplitl [Hs] <;> iassumption
  isplitl [HO]
  · iexists W
    isplitr; · ipureintro; exact fun _ _ => Or.inl trivial
    iexact HO
  isplitl [Hi] <;> iassumption

theorem pre_elim (c : Dev nD) : pre' m ρ c ⊢ iprop(∃ K, bodyPre (ins m ρ) K c) := by
  unfold pre' Φ₀ start G' bodyPre inputs Dat.owesAt Pipeline.owesWithin oweSt
  rw [show (dats m ρ 0 c).owed t0_0.castSucc = O₀ c from rfl]
  iintro ⟨⟨⟨⟨%K, Hrec, Hlin⟩, Hcr, Hlev⟩, Hscr⟩, ⟨%W, %hW, HO⟩, H0, H1, H2, H3, H4, H5, H6, H7⟩
  iexists K
  isplitl [Hrec Hlev]
  · iapply (recs_intro m ρ K); isplitl [Hrec] <;> iassumption
  isplitl [Hlin]; · iexact Hlin
  isplitl [Hcr]; · iexact Hcr
  isplitl [Hscr]; · iexact Hscr
  isplitl [HO]; · iexists W; iexact HO
  isplitr [H7]
  · isplitl [H0]; · iapply (staged c (Memref.whole cc0_stg0_0) _ (ins m ρ c).x fun d => (before_in m ρ c 0 t0_0 d (fetch0_0 t0_0)).trans rfl); iexact H0
    isplitl [H1]; · iapply (staged c (Memref.whole cc0_stg1_0) _ (ins m ρ c).wq fun d => (before_in m ρ c 1 t0_0 d (fetch0_1 t0_0)).trans rfl); iexact H1
    isplitl [H2]; · iapply (staged c (Memref.whole cc0_stg2_0) _ (ins m ρ c).wk fun d => (before_in m ρ c 2 t0_0 d (fetch0_2 t0_0)).trans rfl); iexact H2
    isplitl [H3]; · iapply (staged c (Memref.whole cc0_stg3_0) _ (ins m ρ c).wv fun d => (before_in m ρ c 3 t0_0 d (fetch0_3 t0_0)).trans rfl); iexact H3
    isplitl [H4]; · iapply (staged c (Memref.whole cc0_stg4_0) _ (ins m ρ c).wo fun d => (before_in m ρ c 4 t0_0 d (fetch0_4 t0_0)).trans rfl); iexact H4
    isplitl [H5]; · iapply (staged c (Memref.whole cc0_stg5_0) _ (ins m ρ c).co fun d => (before_in m ρ c 5 t0_0 d (fetch0_5 t0_0)).trans rfl); iexact H5
    iapply (staged c (Memref.whole cc0_stg6_0) _ (ins m ρ c).si fun d => (before_in m ρ c 6 t0_0 d (fetch0_6 t0_0)).trans rfl); iexact H6
  iapply (staged_out c _); iexact H7

theorem sound_point (c : Dev nD) : pre' m ρ c ⊢ wpC c theBody (fun _ => post' m ρ c) := by
  refine (pre_elim m ρ c).trans ?_
  iintro ⟨%K, H⟩
  iapply (wp_mono _ _ _ (fun _ => post_intro m ρ c))
  iapply (sound_body (ins m ρ) K c)
  iexact H

def post'' (c : Dev nD) : sProp 𝕄 :=
  iprop(Φ₁ c ∗ (dats m ρ 0 c).owesAt () t0_0.succ
    ∗ owns (c : Thread nD τ) (Memref.whole cc0_stg0_0) fullShare (ins m ρ c).x ∗ owns (c : Thread nD τ) (Memref.whole cc0_stg1_0) fullShare (ins m ρ c).wq
    ∗ owns (c : Thread nD τ) (Memref.whole cc0_stg2_0) fullShare (ins m ρ c).wk ∗ owns (c : Thread nD τ) (Memref.whole cc0_stg3_0) fullShare (ins m ρ c).wv
    ∗ owns (c : Thread nD τ) (Memref.whole cc0_stg4_0) fullShare (ins m ρ c).wo ∗ owns (c : Thread nD τ) (Memref.whole cc0_stg5_0) fullShare (ins m ρ c).co
    ∗ owns (c : Thread nD τ) (Memref.whole cc0_stg6_0) fullShare (ins m ρ c).si ∗ owns (c : Thread nD τ) outM fullShare (outG (ins m ρ) c))

theorem post_regroup (c : Dev nD) : post' m ρ c ⊢ post'' m ρ c := by
  unfold post' post'' inputs
  iintro ⟨H, HO, ⟨H0, H1, H2, H3, H4, H5, H6⟩, H7⟩
  isplitl [H]; · iexact H
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

-- the output's contents are compared by name
attribute [local irreducible] outG

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  show pre' m ρ c ⊢ wp frame (wpE (defs₀ (F := F)) 𝒱₀ (c : Thread nD τ) none) Set.univ theBody (fun _ => post'' m ρ c)
  exact (sound_point m ρ c).trans (wp_mono _ _ _ fun _ => post_regroup m ρ c)

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch held
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ sems0 scratch held
  iintro ⟨⟨H0, H1, H2, H3, HB⟩, Hr⟩
  isplitl [HB]; · iexact HB
  isplitr [Hr]
  · isplitl [H0]; · iexact H0
    isplitl [H1]; · iexact H1
    isplitl [H2] <;> iassumption
  iexact Hr

theorem above_O₀ (c : Dev nD) : Above 0 (O₀ c) := by
  unfold O₀
  exact Above.add (Above.add ((Above.rs c 1).mono (by decide)) ((Above.ag c 1).mono (by decide))) (Above.bar c 1)

/-- The staging semaphores lie below everything owed. -/
theorem lv_stage (w : Fin cfg0.W) (s : Fin (cfg0.win w).nbuf) : lvS (.dma ((cfg0.win w).sem s)) = 0 := by
  revert w s; decide +kernel

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      rw [lv_stage]
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, for any float values, every weakly fair execution of the sixteen devices' program
    terminates, with the arrays at the computed contents and every semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Run

end Cert.AttnProof

end
-- ==== Proof.Frames.lean ====
/-
The frames of the three programs: each one's run with what it says of the result dropped.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.AttnProof

open Cert.KernelIdeal Cert.KernelIdeal.Gen

open Idealize.ShloMosaic
open Idealize.ShloMosaic.TcCoe
open Idealize.SL.Sem

variable {F : FTy → Type} [FloatOps F] (m : (ℓ : Loc nD τ sig) → Buf (Elt F) ℓ) (ρ : Dev nD → PrngReg)

/-- What a run says of the seven arguments: each holds what it held. -/
theorem QC.args {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c 0).trans ((dats m ρ 0 c).arrAt_in (0 : Fin cfg0.W) rfl _), (h c 1).trans ((dats m ρ 0 c).arrAt_in (1 : Fin cfg0.W) rfl _),
   (h c 2).trans ((dats m ρ 0 c).arrAt_in (2 : Fin cfg0.W) rfl _), (h c 3).trans ((dats m ρ 0 c).arrAt_in (3 : Fin cfg0.W) rfl _),
   (h c 4).trans ((dats m ρ 0 c).arrAt_in (4 : Fin cfg0.W) rfl _), (h c 5).trans ((dats m ρ 0 c).arrAt_in (5 : Fin cfg0.W) rfl _),
   (h c 6).trans ((dats m ρ 0 c).arrAt_in (6 : Fin cfg0.W) rfl _)⟩

/-- The run, said of the arguments and the counters only. -/
theorem run_args : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c => h.1.args m ρ c, h.2⟩) (run_main m ρ)

theorem frame_ideal : Cert.quiescent_KernelIdeal := fun m ρ _ => run_args (F := Ideal) m ρ

set_option maxRecDepth 200000 in
/-- The two kernel programs have one body, -/
theorem bodies_same : Cert.Kernel.defs₀ (F := F) = Cert.KernelIdeal.defs₀ (F := F) := by
  unfold Cert.Kernel.defs₀ Cert.KernelIdeal.defs₀
  congr 1
  funext a b
  rcases a with ⟨_ | _, ha⟩
  · rcases b with ⟨t, s⟩
    show Cert.Kernel.cc0_body .. = Cert.KernelIdeal.cc0_body ..
    rfl
  · rfl

/-- so what is run is the same. -/
theorem defs_same : Cert.Kernel.defs (F := F) = Cert.KernelIdeal.defs (F := F) :=
  congrArg (Pipeline.defs Cert.KernelIdeal.pcfgs) bodies_same

theorem frame_kernel : Cert.quiescent_Kernel := fun m ρ _ => by
  have h := run_args (F := Bits) m ρ
  rw [← defs_same] at h
  exact h

theorem frame_reference : Cert.quiescent_ReferenceIdeal := fun m ρ _ =>
  (θ_run Cert.ReferenceIdeal.defs _ _).mono
    (fun r h => ⟨fun c => (h c).2, sem_eq_zero_of_no_sems (by rfl) r.2⟩)
    (Cert.ReferenceIdeal.Value.run (F := Ideal) m ρ)

end Cert.AttnProof

end
-- ==== Proof.Softmax.lean ====
/-
One attention head over the extended reals: dividing once after the product with the values is the same as normalising the
weights first, and a scale may be folded into the queries, when the scores are real numbers. The values may be infinite.
-/
module

public import Idealize.ShloMosaic.Lib.Pointwise
public import Idealize.ShloMosaic.Lib.IdealHost

@[expose] public section

noncomputable section

namespace Cert.AttnProof

open Idealize.ShloMosaic

/-- A real number among the extended reals. -/
def Rl (x : EReal) : Prop := ∃ r : ℝ, x = (r : EReal)

theorem Rl.mk {x : EReal} (h1 : x ≠ ⊤) (h2 : x ≠ ⊥) : Rl x := ⟨x.toReal, (EReal.coe_toReal h1 h2).symm⟩
theorem Rl.coe (r : ℝ) : Rl (r : EReal) := ⟨r, rfl⟩
theorem Rl.add {x y : EReal} : Rl x → Rl y → Rl (x + y) := by
  rintro ⟨a, rfl⟩ ⟨b, rfl⟩; exact ⟨a + b, (EReal.coe_add a b).symm⟩
theorem Rl.mul {x y : EReal} : Rl x → Rl y → Rl (x * y) := by
  rintro ⟨a, rfl⟩ ⟨b, rfl⟩; exact ⟨a * b, (EReal.coe_mul a b).symm⟩
theorem Rl.neg {x : EReal} : Rl x → Rl (-x) := by
  rintro ⟨a, rfl⟩; exact ⟨-a, (EReal.coe_neg a).symm⟩
theorem coe_sum_real {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]
theorem Rl.sum {ι : Type*} (s : Finset ι) {f : ι → EReal} (h : ∀ i, Rl (f i)) : Rl (∑ i ∈ s, f i) := by
  choose g hg using h
  exact ⟨∑ i ∈ s, g i, by rw [← coe_sum_real]; exact Finset.sum_congr rfl fun i _ => hg i⟩

/-- A nonnegative real factor goes into a sum of any extended reals. -/
theorem sum_mul_real {ι : Type*} (s : Finset ι) (f : ι → EReal) (c : ℝ) (hc : 0 ≤ c) :
    (∑ i ∈ s, f i) * (c : EReal) = ∑ i ∈ s, f i * (c : EReal) := by
  classical
  have h0 : (0 : EReal) ≤ (c : EReal) := by exact_mod_cast hc
  induction s using Finset.induction_on with
  | empty => simp
  | insert a s h ih =>
    rw [Finset.sum_insert h, Finset.sum_insert h, ← ih, mul_comm, EReal.left_distrib_of_nonneg_of_ne_top h0 (EReal.coe_ne_top c),
      mul_comm (c : EReal), mul_comm (c : EReal)]

/-- The largest of finitely many real numbers, at least one, is a real number. -/
theorem Rl.fold_max {n : ℕ} (hn : 0 < n) {f : Fin n → EReal} (h : ∀ i, Rl (f i)) :
    Rl (Finset.univ.fold max (⊥ : EReal) f) := by
  refine Rl.mk (ne_of_lt ?_) (ne_of_gt ?_)
  · refine (Finset.fold_max_lt _).mpr ⟨bot_lt_top, fun i _ => ?_⟩
    obtain ⟨r, hr⟩ := h i; rw [hr]; exact EReal.coe_lt_top r
  · refine (Finset.lt_fold_max _).mpr (Or.inr ⟨⟨0, hn⟩, Finset.mem_univ _, ?_⟩)
    obtain ⟨r, hr⟩ := h ⟨0, hn⟩; rw [hr]; exact EReal.bot_lt_coe r

/-- Weights that are normalised late or early, with or without a shift of the scores. -/
theorem softmax_late {n : ℕ} (hn : 0 < n) (s v : Fin n → EReal) (M : EReal) (hs : ∀ j, Rl (s j)) (hM : Rl M) :
    Ideal.div (∑ j, Ideal.exp (s j) * v j) (∑ j, Ideal.exp (s j))
      = ∑ j, v j * Ideal.div (Ideal.exp (s j - M)) (∑ j, Ideal.exp (s j - M)) := by
  choose g hg using hs
  obtain ⟨M, rfl⟩ := hM
  have e1 : ∀ j, Ideal.exp (s j) = ((Real.exp (g j) : ℝ) : EReal) := fun j => by rw [hg j]; rfl
  have e2 : ∀ j, Ideal.exp (s j - (M : EReal)) = ((Real.exp (g j) * Real.exp (-M) : ℝ) : EReal) := fun j => by
    rw [hg j, ← EReal.coe_sub, ← Real.exp_add, ← sub_eq_add_neg]; rfl
  simp only [e1, e2, coe_sum_real]
  haveI : Nonempty (Fin n) := ⟨⟨0, hn⟩⟩
  have hD : (0 : ℝ) < ∑ j, Real.exp (g j) := Finset.sum_pos (fun j _ => Real.exp_pos _) Finset.univ_nonempty
  have hD' : (0 : ℝ) < ∑ j, Real.exp (g j) * Real.exp (-M) := by
    rw [← Finset.sum_mul]; exact mul_pos hD (Real.exp_pos _)
  rw [Ideal.div_coe hD.ne', sum_mul_real _ _ _ (by positivity)]
  refine Finset.sum_congr rfl fun j _ => ?_
  rw [Ideal.div_coe hD'.ne', mul_comm _ (v j), mul_assoc, ← EReal.coe_mul, ← EReal.coe_mul]
  congr 2
  rw [← Finset.sum_mul]
  have := Real.exp_pos (-M)
  field_simp

/-- A real factor of every query is one of the score. -/
theorem score_scale {n : ℕ} (q k : Fin n → EReal) (c : ℝ) (hq : ∀ e, Rl (q e)) (hk : ∀ e, Rl (k e)) :
    ∑ e, q e * (c : EReal) * k e = (∑ e, q e * k e) * (c : EReal) := by
  choose a ha using hq
  choose b hb using hk
  simp only [ha, hb, ← EReal.coe_mul, coe_sum_real, Finset.sum_mul]
  congr 1
  exact Finset.sum_congr rfl fun e _ => by ring

/-- One head as the kernel computes it: row `i`, column `d`, with the scale `c` in the queries. -/
def headLate {n m : ℕ} (c : EReal) (Q K V : Fin n → Fin m → EReal) (i : Fin n) (d : Fin m) : EReal :=
  Ideal.div (∑ j, Ideal.exp (∑ e, Q i e * c * K j e) * V j d) (∑ j, Ideal.exp (∑ e, Q i e * c * K j e))
/-- The scores of the reference. -/
def score {n m : ℕ} (c : EReal) (Q K : Fin n → Fin m → EReal) (i j : Fin n) : EReal := (∑ e, Q i e * K j e) * c
def scoreMax {n m : ℕ} (c : EReal) (Q K : Fin n → Fin m → EReal) (i : Fin n) : EReal :=
  Finset.univ.fold max (⊥ : EReal) (score c Q K i)
/-- One head as the reference computes it. -/
def headEarly {n m : ℕ} (c : EReal) (Q K V : Fin n → Fin m → EReal) (i : Fin n) (d : Fin m) : EReal :=
  ∑ j, V j d * Ideal.div (Ideal.exp (score c Q K i j - scoreMax c Q K i)) (∑ j, Ideal.exp (score c Q K i j - scoreMax c Q K i))

theorem head_eq {n m : ℕ} (hn : 0 < n) (c : ℝ) (Q K V : Fin n → Fin m → EReal) (hQ : ∀ i e, Rl (Q i e)) (hK : ∀ i e, Rl (K i e))
    (i : Fin n) (d : Fin m) : headLate (c : EReal) Q K V i d = headEarly (c : EReal) Q K V i d := by
  have hs : ∀ j, Rl (score (c : EReal) Q K i j) := fun j =>
    (Rl.sum _ fun e => (hQ i e).mul (hK j e)).mul (Rl.coe c)
  unfold headLate headEarly
  simp only [score_scale _ _ c (hQ i) (hK _)]
  exact softmax_late hn (score (c : EReal) Q K i) (fun j => V j d) _ hs (Rl.fold_max hn hs)

/-- A row turned by a quarter, pair by pair: minus the odd entry, then the even one. -/
def quarter {n : ℕ} (hn : n % 2 = 0) (t : Fin n → EReal) (d : Fin n) : EReal :=
  if h : d.val % 2 = 0 then -t ⟨d.val + 1, by have := d.isLt; omega⟩ else t ⟨d.val - 1, by have := d.isLt; omega⟩

theorem Rl.quarter {n : ℕ} (hn : n % 2 = 0) {t : Fin n → EReal} (h : ∀ d, Rl (t d)) (d : Fin n) : Rl (quarter hn t d) := by
  unfold AttnProof.quarter; split
  · exact (h _).neg
  · exact h _

/-- The product with the matrix of the quarter turn. -/
theorem sum_quarter {n : ℕ} (hn : n % 2 = 0) (t : Fin n → EReal) (d : Fin n) :
    ∑ r : Fin n, t r * (if r.val = d.val + 1 ∧ d.val % 2 = 0 then (-1 : EReal) else if d.val = r.val + 1 ∧ d.val % 2 = 1 then 1 else 0)
      = quarter hn t d := by
  have hd := d.isLt
  unfold quarter
  split
  · rename_i h
    rw [Finset.sum_eq_single (⟨d.val + 1, by omega⟩ : Fin n)]
    · rw [if_pos ⟨rfl, h⟩, mul_neg, mul_one]
    · intro r _ hr
      have : ¬ r.val = d.val + 1 := fun e => hr (Fin.ext e)
      rw [if_neg (by tauto), if_neg (by omega), mul_zero]
    · simp
  · rename_i h
    rw [Finset.sum_eq_single (⟨d.val - 1, by omega⟩ : Fin n)]
    · rw [if_neg (by tauto), if_pos (by constructor <;> (try simp only) <;> omega), mul_one]
    · intro r _ hr
      have : ¬ r.val = d.val - 1 := fun e => hr (Fin.ext e)
      rw [if_neg (by tauto), if_neg (by omega), mul_zero]
    · simp

/-- A quarter turn of a row of heads is one of each head. -/
theorem quarter_part {n k : ℕ} (hn : n % 2 = 0) (hk : k % 2 = 0) (t : Fin n → EReal) (o : ℕ) (ho : o % 2 = 0) (h : o + k ≤ n) (d : Fin k) :
    quarter hn t ⟨o + d.val, by omega⟩ = quarter hk (fun e : Fin k => t ⟨o + e.val, by omega⟩) d := by
  have hd := d.isLt
  unfold quarter
  by_cases hc : d.val % 2 = 0
  · rw [dif_pos (show (o + d.val) % 2 = 0 by omega), dif_pos hc]; rfl
  · rw [dif_neg (show ¬ (o + d.val) % 2 = 0 by omega), dif_neg hc]
    congr 1
    exact Fin.ext (by show o + d.val - 1 = o + (d.val - 1); omega)

/-- The scale of the scores, one eighth. -/
theorem eighth_f32 : Ideal.ofBits .f32 0x3E000000#32 = (((1 : ℝ) / 8 : ℝ) : EReal) := by
  simp [Ideal.ofBits, Ideal.ieee, -EReal.coe_mul]; norm_num
theorem neg_one_f32 : Ideal.ofBits .f32 0xBF800000#32 = (-1 : EReal) := by
  rw [show (-1 : EReal) = ((-(1 : ℝ) : ℝ) : EReal) by rw [EReal.coe_neg, EReal.coe_one]]
  simp [Ideal.ofBits, Ideal.ieee, -EReal.coe_mul, -EReal.coe_neg]; norm_num
theorem neg_inf_f32 : Ideal.ofBits .f32 0xFF800000#32 = (⊥ : EReal) := by
  simp [Ideal.ofBits, Ideal.ieee]

end Cert.AttnProof

end
-- ==== Proof.HeadVal.lean ====
/-
The kernel's payloads read at an index, over the extended reals: the projections, the quarter turn, one head.
-/
module

public import proofs.«01_k».proof.Proof.Values
public import proofs.«01_k».proof.Proof.Softmax
public import Idealize.ShloMosaic.Lib.Routing.Words

@[expose] public section

set_option maxRecDepth 16384

noncomputable section

namespace Cert.AttnProof

open Cert.KernelIdeal Cert.KernelIdeal.Gen

open Idealize.ShloMosaic
open Idealize.ShloMosaic.TcCoe

/-- Entry `(b, r, l)` of the projection of the input `x` with the weights `w`. -/
def lin (x : S2x256x768.Idx → EReal) (w : S768x256.Idx → EReal) (b : Fin 2) (r l : Fin 256) : EReal :=
  ∑ k : Fin 768, x (ix3 b r k) * w (ix2 k l)

/-- The rotated projection: each pair turned through the angle of its row, `co` and `si` being the tables. -/
def rope (co si : S256x64.Idx → EReal) (L : Fin 256 → Fin 256 → EReal) (r l : Fin 256) : EReal :=
  L r l * co (ix2 r ⟨l.val % 64, Nat.mod_lt _ (by decide)⟩)
    + quarter (n := 256) rfl (L r) l * si (ix2 r ⟨l.val % 64, Nat.mod_lt _ (by decide)⟩)

theorem cosT_at (t : FVec Ideal S256x64 .f32) (r : Fin 256) (l : Fin 256) :
    k0_pay1 (F := Ideal) t (ix2 r l) = t (ix2 r ⟨l.val % 64, Nat.mod_lt _ (by decide)⟩) := by
  have hl := l.isLt
  pointwise [k0_pay1]
  split_ifs <;> (congr 2; exact Fin.ext (by simp only; omega))
theorem sinT_at (t : FVec Ideal S256x64 .f32) (r : Fin 256) (l : Fin 256) :
    k0_pay2 (F := Ideal) t (ix2 r l) = t (ix2 r ⟨l.val % 64, Nat.mod_lt _ (by decide)⟩) := cosT_at t r l

theorem eq_word {a b : ℕ} (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rw [BitVec.toNat_ofNat, BitVec.toNat_ofNat, Nat.mod_eq_of_lt (by omega), Nat.mod_eq_of_lt (by omega)] at this
    exact this
  · rintro rfl; rfl
theorem select_both {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [Scalar.select, IntOp.andi, hp, hq]

/-- The rotation's matrix at an index. -/
theorem rotM_at (r l : Fin 256) : (Ins.rotM (F := Ideal)) (ix2 r l)
    = if r.val = l.val + 1 ∧ l.val % 2 = 0 then (-1 : EReal) else if l.val = r.val + 1 ∧ l.val % 2 = 1 then 1 else 0 := by
  have hr := r.isLt
  have hl := l.isLt
  pointwise [Ins.rotM, k0_pay5, k0_pay3, k0_pay4, Ins.it0, Ins.it1]
  rw [show (2#32 : BitVec 32) = BitVec.ofNat 32 2 from rfl, Routing.remsi_word _ (by omega) (by decide) (by decide),
    show IntOp.addi (BitVec.ofNat 32 l.val) 1#32 = BitVec.ofNat 32 (l.val + 1) from (BitVec.ofNat_add _ _).symm,
    show IntOp.addi (BitVec.ofNat 32 r.val) 1#32 = BitVec.ofNat 32 (r.val + 1) from (BitVec.ofNat_add _ _).symm,
    eq_word (by omega) (by omega), eq_word (by omega) (by decide), eq_word (by omega) (by omega), eq_word (by omega) (by decide),
    select_both, select_both, neg_one_f32]

variable (I : Ins Ideal)

theorem row0_at (r : Fin 256) (k : Fin 768) : I.row0 (ix3 0 r k) = I.x (ix3 0 r k) := by
  pointwise [Ins.row0]
theorem row1_at (r : Fin 256) (k : Fin 768) : I.row1 (ix3 0 r k) = I.x (ix3 1 r k) := by
  pointwise [Ins.row1]

theorem v0_at (r l : Fin 256) : I.v0 (ix2 r l) = lin I.x I.wv 0 r l := by
  pointwise [Ins.v0, k0_pay12, k0_pay10, k0_pay9, lin, row0_at]
theorem v1_at (r l : Fin 256) : I.v1 (ix2 r l) = lin I.x I.wv 1 r l := by
  pointwise [Ins.v1, k0_pay26, k0_pay24, k0_pay9, lin, row1_at]

/-- The two summands of a rotated row, the second a product with the rotation's matrix. -/
theorem rope_of_sum (co si : S256x64.Idx → EReal) (L : Fin 256 → Fin 256 → EReal) (r l : Fin 256) :
    L r l * co (ix2 r ⟨l.val % 64, Nat.mod_lt _ (by decide)⟩)
      + (∑ x : Fin 256, L r x * Ins.rotM (F := Ideal) (ix2 x l)) * si (ix2 r ⟨l.val % 64, Nat.mod_lt _ (by decide)⟩)
      = rope co si L r l := by
  simp only [rotM_at]
  rw [sum_quarter (n := 256) rfl]; rfl

theorem q0_at (r l : Fin 256) : I.q0 (ix2 r l) = rope I.co I.si (lin I.x I.wq 0) r l := by
  pointwise [Ins.q0, k0_pay13, k0_pay10, k0_pay7, row0_at, Ins.cosT, Ins.sinT, cosT_at, sinT_at]
  exact rope_of_sum I.co I.si (lin I.x I.wq 0) r l
theorem k0_at (r l : Fin 256) : k0_pay17 (F := Ideal) I.sinT Ins.rotM I.kc0 I.kb0 (ix2 r l) = rope I.co I.si (lin I.x I.wk 0) r l := by
  pointwise [k0_pay17, Ins.kc0, Ins.kb0, k0_pay14, k0_pay15, k0_pay11, k0_pay10, k0_pay8, row0_at, Ins.cosT, Ins.sinT, cosT_at, sinT_at]
  exact rope_of_sum I.co I.si (lin I.x I.wk 0) r l
theorem q1_at (r l : Fin 256) : I.q1 (ix2 r l) = rope I.co I.si (lin I.x I.wq 1) r l := by
  pointwise [Ins.q1, k0_pay27, k0_pay24, k0_pay7, row1_at, Ins.cosT, Ins.sinT, cosT_at, sinT_at]
  exact rope_of_sum I.co I.si (lin I.x I.wq 1) r l
theorem k1_at (r l : Fin 256) : k0_pay31 (F := Ideal) I.sinT I.kc1 I.kr1 (ix2 r l) = rope I.co I.si (lin I.x I.wk 1) r l := by
  pointwise [k0_pay31, Ins.kc1, Ins.kr1, k0_pay28, k0_pay29, k0_pay25, k0_pay24, k0_pay8, row1_at, Ins.cosT, Ins.sinT, cosT_at, sinT_at]
  exact rope_of_sum I.co I.si (lin I.x I.wk 1) r l

/-- Row `i`, column `d` of the head of batch element `b` whose columns begin at `o`. -/
def headAt (b : Fin 2) (o : ℕ) (ho : o + 64 ≤ 256) (i : Fin 256) (d : Fin 64) : EReal :=
  headLate (((1 : ℝ) / 8 : ℝ) : EReal)
    (fun r (e : Fin 64) => rope I.co I.si (lin I.x I.wq b) r ⟨o + e.val, by omega⟩)
    (fun r (e : Fin 64) => rope I.co I.si (lin I.x I.wk b) r ⟨o + e.val, by omega⟩)
    (fun r (e : Fin 64) => lin I.x I.wv b r ⟨o + e.val, by omega⟩) i d

theorem h00_at (i : Fin 256) (d : Fin 64) : I.h00 (ix3 0 i d) = headAt I 0 0 (by decide) i d := by
  pointwise [Ins.h00, k0_pay19, k0_pay16, k0_pay18, q0_at, k0_at, v0_at, eighth_f32, headAt, headLate, zero_add]
theorem h01_at (i : Fin 256) (d : Fin 64) : I.h01 (ix3 0 i d) = headAt I 0 64 (by decide) i d := by
  pointwise [Ins.h01, k0_pay20, k0_pay16, k0_pay18, q0_at, k0_at, v0_at, eighth_f32, headAt, headLate]
theorem h02_at (i : Fin 256) (d : Fin 64) : I.h02 (ix3 0 i d) = headAt I 0 128 (by decide) i d := by
  pointwise [Ins.h02, k0_pay22, k0_pay21, k0_pay16, k0_pay18, q0_at, k0_at, v0_at, eighth_f32, headAt, headLate]
theorem h03_at (i : Fin 256) (d : Fin 64) : I.h03 (ix3 0 i d) = headAt I 0 192 (by decide) i d := by
  pointwise [Ins.h03, k0_pay23, k0_pay16, k0_pay18, q0_at, k0_at, v0_at, eighth_f32, headAt, headLate]
theorem h10_at (i : Fin 256) (d : Fin 64) : I.h10 (ix3 0 i d) = headAt I 1 0 (by decide) i d := by
  pointwise [Ins.h10, k0_pay33, k0_pay30, k0_pay32, q1_at, k1_at, v1_at, eighth_f32, headAt, headLate, zero_add]
theorem h11_at (i : Fin 256) (d : Fin 64) : I.h11 (ix3 0 i d) = headAt I 1 64 (by decide) i d := by
  pointwise [Ins.h11, k0_pay34, k0_pay30, k0_pay32, q1_at, k1_at, v1_at, eighth_f32, headAt, headLate]
theorem h12_at (i : Fin 256) (d : Fin 64) : I.h12 (ix3 0 i d) = headAt I 1 128 (by decide) i d := by
  pointwise [Ins.h12, k0_pay37, k0_pay35, k0_pay36, k0_pay30, k0_pay32, q1_at, k1_at, v1_at, eighth_f32, headAt, headLate]
theorem h13_at (i : Fin 256) (d : Fin 64) : I.h13 (ix3 0 i d) = headAt I 1 192 (by decide) i d := by
  pointwise [Ins.h13, k0_pay38, k0_pay30, k0_pay32, q1_at, k1_at, v1_at, eighth_f32, headAt, headLate]

/-- The attention output at an index. -/
def ctxAt (y : S2x256x256.Idx) : EReal :=
  headAt I (y 0) (64 * ((y 2).val / 64)) (by have : (y 2).val < 256 := (y 2).isLt; omega) (y 1) ⟨(y 2).val % 64, Nat.mod_lt _ (by decide)⟩

theorem headAt_congr {b : Fin 2} {o o' : ℕ} {ho : o + 64 ≤ 256} {ho' : o' + 64 ≤ 256} {i : Fin 256} {d d' : Fin 64} (h : o = o')
    (hd : d = d') : headAt I b o ho i d = headAt I b o' ho' i d' := by
  subst h hd; rfl

theorem ctxAt_of (b : Fin 2) (o : ℕ) (ho : o + 64 ≤ 256) (h : o % 64 = 0) (i : Fin 256) (d : Fin 64) :
    ctxAt I (ix3 b i ⟨o + d.val, by omega⟩) = headAt I b o ho i d := by
  have hd := d.isLt
  exact headAt_congr I (by show 64 * ((o + d.val) / 64) = o; omega) (Fin.ext (by show (o + d.val) % 64 = d.val; omega))

theorem ctx_piece {b : Fin 2} {o : ℕ} (ho : o + 64 ≤ 256) (h : o % 64 = 0) {P : FVec Ideal S1x256x64 .bf16}
    (inb : ∀ a, (![b.val, 0, o] : Fin 3 → ℕ) a + S1x256x64.size a ≤ S2x256x256.size a)
    (hP : ∀ i d, P (ix3 0 i d) = headAt I b o ho i d) (x : S1x256x64.Idx) :
    P x = ctxAt I ((Rect.unit (s := S2x256x256) ![b.val, 0, o] S1x256x64.size inb).emb x) := by
  have e0 : (x 0).val = 0 := by have : (x 0).val < 1 := (x 0).isLt; omega
  have ex : x = (ix3 (0 : Fin 1) (x 1 : Fin 256) (x 2 : Fin 64) : S1x256x64.Idx) := by
    funext a; fin_cases a
    · exact Fin.ext e0
    · rfl
    · rfl
  refine (congrArg P ex).trans ((hP _ _).trans ((ctxAt_of I b o ho h _ _).symm.trans (congrArg (ctxAt I) ?_)))
  funext a; fin_cases a
  · exact Fin.ext (by show b.val = b.val + 1 * (x 0).val; omega)
  · exact Fin.ext (by show (x 1).val = 0 + 1 * (x 1).val; omega)
  · exact Fin.ext (by show o + (x 2).val = o + 1 * (x 2).val; omega)

theorem ctxG_at (y : S2x256x256.Idx) : I.ctxG y = ctxAt I y := by
  refine View.canon_apply_of_pieces (ctxAt I) I.ctxL (fun p hp => ?_) y (I.ctx_cover y)
  unfold Ins.ctxL at hp
  simp only [List.mem_cons, List.not_mem_nil, or_false] at hp
  rcases hp with rfl | rfl | rfl | rfl | rfl | rfl | rfl | rfl
  · exact ctx_piece I (b := 1) (by decide) (by decide) inb_S2x256x256_S1x256x64_1_0_192 (h13_at I)
  · exact ctx_piece I (b := 1) (by decide) (by decide) inb_S2x256x256_S1x256x64_1_0_128 (h12_at I)
  · exact ctx_piece I (b := 1) (by decide) (by decide) inb_S2x256x256_S1x256x64_1_0_64 (h11_at I)
  · exact ctx_piece I (b := 1) (by decide) (by decide) inb_S2x256x256_S1x256x64_1_0_0 (h10_at I)
  · exact ctx_piece I (b := 0) (by decide) (by decide) inb_S2x256x256_S1x256x64_0_0_192 (h03_at I)
  · exact ctx_piece I (b := 0) (by decide) (by decide) inb_S2x256x256_S1x256x64_0_0_128 (h02_at I)
  · exact ctx_piece I (b := 0) (by decide) (by decide) inb_S2x256x256_S1x256x64_0_0_64 (h01_at I)
  · exact ctx_piece I (b := 0) (by decide) (by decide) inb_S2x256x256_S1x256x64_0_0_0 (h00_at I)

end Cert.AttnProof

end
-- ==== Proof.KernelVal.lean ====
/-
The kernel's result at an index, over the extended reals: at every device it is the sum, over all devices and their columns, of
the attention output times the projection's weights.
-/
module

public import proofs.«01_k».proof.Proof.HeadVal

@[expose] public section

set_option maxRecDepth 16384

noncomputable section

namespace Cert.AttnProof

open Cert.KernelIdeal Cert.KernelIdeal.Gen

open Idealize.ShloMosaic
open Idealize.ShloMosaic.TcCoe

/-- An index of three coordinates from its coordinates. -/
theorem eq_ix3 {a b c : ℕ} (x : (⟨3, ![a, b, c]⟩ : Shape).Idx) (i : Fin a) (j : Fin b) (k : Fin c) (h0 : (x 0).val = i.val)
    (h1 : (x 1).val = j.val) (h2 : (x 2).val = k.val) : x = ix3 i j k := by
  funext t; fin_cases t
  · exact Fin.ext h0
  · exact Fin.ext h1
  · exact Fin.ext h2

section one

variable (I : Ins Ideal)

/-- The device's share of the projection at an index. -/
def pfAt (b : Fin 2) (i : Fin 256) (n : Fin 768) : EReal := ∑ e : Fin 256, ctxAt I (ix3 b i e) * I.wo (ix2 e n)
def pfIdx (y : S2x256x768.Idx) : EReal := pfAt I (y 0) (y 1) (y 2)

theorem c0_at (i e : Fin 256) : I.c0 (ix3 0 i e) = ctxAt I (ix3 0 i e) := by
  pointwise [Ins.c0, ctxG_at]
theorem c1_at (i e : Fin 256) : I.c1 (ix3 0 i e) = ctxAt I (ix3 1 i e) := by
  pointwise [Ins.c1, ctxG_at]

theorem pf0_at (i : Fin 256) (n : Fin 768) : k0_pay40 (F := Ideal) I.woB I.c0 (ix3 0 i n) = pfAt I 0 i n := by
  pointwise [k0_pay40, k0_pay39, Ins.woB, k0_pay6, c0_at, pfAt]
theorem pf1_at (i : Fin 256) (n : Fin 768) : k0_pay43 (F := Ideal) I.woB I.c1 (ix3 0 i n) = pfAt I 1 i n := by
  pointwise [k0_pay43, k0_pay42, Ins.woB, k0_pay6, c1_at, pfAt]
theorem par0_at (i : Fin 256) (n : Fin 768) : k0_pay41 (F := Ideal) I.woB I.c0 (ix3 0 i n) = pfAt I 0 i n := by
  pointwise [k0_pay41, k0_pay39, Ins.woB, k0_pay6, c0_at, pfAt]
theorem par1_at (i : Fin 256) (n : Fin 768) : k0_pay44 (F := Ideal) I.woB I.c1 (ix3 0 i n) = pfAt I 1 i n := by
  pointwise [k0_pay44, k0_pay42, Ins.woB, k0_pay6, c1_at, pfAt]

theorem pf_piece {b : Fin 2} {P : S1x256x768.Idx → EReal}
    (inb : ∀ a, (![b.val, 0, 0] : Fin 3 → ℕ) a + S1x256x768.size a ≤ S2x256x768.size a)
    (hP : ∀ i n, P (ix3 0 i n) = pfAt I b i n) (x : S1x256x768.Idx) :
    P x = pfIdx I ((Rect.unit (s := S2x256x768) ![b.val, 0, 0] S1x256x768.size inb).emb x) := by
  have e0 : (x 0).val = 0 := by have : (x 0).val < 1 := (x 0).isLt; omega
  have ex : x = (ix3 (0 : Fin 1) (x 1 : Fin 256) (x 2 : Fin 768) : S1x256x768.Idx) := eq_ix3 (a := 1) (b := 256) (c := 768) x _ _ _ e0 rfl rfl
  refine (congrArg P ex).trans ((hP _ _).trans ?_)
  show _ = pfIdx I _
  rw [eq_ix3 (a := 2) (b := 256) (c := 768) ((Rect.unit (s := S2x256x768) ![b.val, 0, 0] S1x256x768.size inb).emb x) b (x 1) (x 2)
    (by show b.val + 1 * (x 0).val = b.val; omega) (by show 0 + 1 * (x 1).val = (x 1).val; omega) (by show 0 + 1 * (x 2).val = (x 2).val; omega)]
  rfl

theorem pfG_at (y : S2x256x768.Idx) : I.pfG y = pfIdx I y := by
  refine View.canon_apply_of_pieces (pfIdx I) I.pfL (fun p hp => ?_) y (I.pf_cover y)
  unfold Ins.pfL at hp
  simp only [List.mem_cons, List.not_mem_nil, or_false] at hp
  rcases hp with rfl | rfl
  · exact pf_piece I (b := 1) inb_S2x256x768_S1x256x768_1_0_0 (pf1_at I)
  · exact pf_piece I (b := 0) inb_S2x256x768_S1x256x768_0_0_0 (pf0_at I)
theorem parG_at (y : S2x256x768.Idx) : I.parG y = pfIdx I y := by
  refine View.canon_apply_of_pieces (pfIdx I) I.parL (fun p hp => ?_) y (I.par_cover y)
  unfold Ins.parL at hp
  simp only [List.mem_cons, List.not_mem_nil, or_false] at hp
  rcases hp with rfl | rfl
  · exact pf_piece I (b := 1) inb_S2x256x768_S1x256x768_1_0_0 (par1_at I)
  · exact pf_piece I (b := 0) inb_S2x256x768_S1x256x768_0_0_0 (par0_at I)

theorem chunk_at (e : Dev nD) (j : S2x16x768.Idx) : I.chunk e j = pfIdx I ((chunkR e).emb j) := parG_at I _

theorem chunk_row (c : Dev nD) (r : Fin 16) : 16 * c.val + r.val < 256 := by have : c.val < 16 := c.isLt; omega

theorem own0_at (v : Vec Ideal S1x16x768 .f32) (r : Fin 16) (n : Fin 768) : k0_pay46 (F := Ideal) (k0_pay45 v) (ix3 0 r n) = v (ix3 0 r n) := by
  pointwise [k0_pay46, k0_pay45]
theorem own1_at (v : Vec Ideal S1x16x768 .f32) (r : Fin 16) (n : Fin 768) : k0_pay47 (F := Ideal) v (ix3 0 r n) = v (ix3 0 r n) := by
  pointwise [k0_pay47]

/-- The device's own chunk of its share, at an index of the chunk. -/
def ownIdx (c : Dev nD) (y : S2x16x768.Idx) : EReal := pfIdx I ((chunkR c).emb y)

theorem acc_piece (c : Dev nD) (b : Fin 2) (v : Vec Ideal S1x16x768 .f32) (P : FVec Ideal S1x16x768 .f32)
    (hv : ∀ (r : Fin 16) (n : Fin 768), v (ix3 0 r n) = pfIdx I (ix3 b ⟨16 * c.val + r.val, chunk_row c r⟩ n))
    (inb : ∀ a, (![b.val, 0, 0] : Fin 3 → ℕ) a + S1x16x768.size a ≤ S2x16x768.size a)
    (hP : ∀ (r : Fin 16) (n : Fin 768), P (ix3 0 r n) = v (ix3 0 r n)) (x : S1x16x768.Idx) :
    P x = ownIdx I c ((Rect.unit (s := S2x16x768) ![b.val, 0, 0] S1x16x768.size inb).emb x) := by
  have e0 : (x 0).val = 0 := by have : (x 0).val < 1 := (x 0).isLt; omega
  have ex : x = (ix3 (0 : Fin 1) (x 1 : Fin 16) (x 2 : Fin 768) : S1x16x768.Idx) := eq_ix3 (a := 1) (b := 16) (c := 768) x _ _ _ e0 rfl rfl
  refine (congrArg P ex).trans ((hP _ _).trans ((hv _ _).trans (congrArg (pfIdx I) ?_)))
  funext a; fin_cases a
  · exact Fin.ext (by show b.val = 0 + 1 * (b.val + 1 * (x 0).val); omega)
  · exact Fin.ext (by show 16 * c.val + (x 1).val = 16 * c.val + 1 * (0 + 1 * (x 1).val); omega)
  · exact Fin.ext (by show (x 2).val = 0 + 1 * (0 + 1 * (x 2).val); omega)

/-- The device's own chunk of its share, read through the offset the kernel computes. -/
theorem own_load (c : Dev nD) (b : Fin 2) (off : Fin 3 → ℕ) (ho : off = ![b.val, 16 * c.val, 0])
    (h : ∀ a, off a + S1x16x768.size a ≤ S2x256x768.size a) (r : Fin 16) (n : Fin 768) :
    View.ld (Val := Elt Ideal) (e' := .f32) I.pfG (Rect.unit (s := S2x256x768) off S1x16x768.size h) (ix3 (0 : Fin 1) r n : S1x16x768.Idx)
      = pfIdx I (ix3 b ⟨16 * c.val + r.val, chunk_row c r⟩ n) := by
  subst ho
  refine (pfG_at I _).trans (congrArg (pfIdx I) ?_)
  funext a; fin_cases a
  · exact Fin.ext (by show b.val + 1 * 0 = b.val; omega)
  · exact Fin.ext (by show 16 * c.val + 1 * r.val = 16 * c.val + r.val; omega)
  · exact Fin.ext (by show 0 + 1 * n.val = n.val; omega)

attribute [local irreducible] ownIdx k0_pay47 k0_pay46 k0_pay45 Ins.pfG in
theorem acc0_own (c : Dev nD) (y : S2x16x768.Idx) : View.canon (I.acc0L c) y = ownIdx I c y := by
  have h1 := acc_piece I c 1 _ _ (own_load I c 1 _ (k0_off3_eq c) (k0_off3_inb c)) inb_S2x16x768_S1x16x768_1_0_0
    (own1_at (View.ld (Val := Elt Ideal) (e' := .f32) I.pfG (Rect.unit (s := S2x256x768) (k0_off3 c) S1x16x768.size (k0_off3_inb c))))
  have h0 := acc_piece I c 0 _ _ (own_load I c 0 _ (k0_off2_eq c) (k0_off2_inb c)) inb_S2x16x768_S1x16x768_0_0_0
    (own0_at (View.ld (Val := Elt Ideal) (e' := .f32) I.pfG (Rect.unit (s := S2x256x768) (k0_off2 c) S1x16x768.size (k0_off2_inb c))))
  refine View.canon_apply_of_pieces (ownIdx I c) (I.acc0L c) (fun p hp => ?_) y (I.acc0_cover c y)
  unfold Ins.acc0L at hp
  rcases List.mem_cons.mp hp with hp | hp
  · rw [hp]; exact h1
  · rw [List.mem_singleton.mp hp]; exact h0
theorem acc0_at (c : Dev nD) (y : S2x16x768.Idx) : View.canon (I.acc0L c) y = pfIdx I ((chunkR c).emb y) := acc0_own I c y

end one

variable (In : Dev nD → Ins Ideal)

/-- The whole sum at an index. -/
def sumIdx (y : S2x256x768.Idx) : EReal := ∑ d : Dev nD, pfIdx (In d) y

theorem add_at (A : S2x16x768.Idx → EReal) (X : S2x16x768.Idx → EReal) (b : Fin 2) (r : Fin 16) (n : Fin 768) :
    k0_pay48 (F := Ideal) A (slotV X) (ix3 b r n) = A (ix3 b r n) + X (ix3 b r n) := by
  pointwise [k0_pay48, slotV]
theorem red_at (A : S2x16x768.Idx → EReal) (b : Fin 2) (r : Fin 16) (n : Fin 768) : k0_pay65 (F := Ideal) A (ix3 b r n) = A (ix3 b r n) := by
  pointwise [k0_pay65]
theorem land_at (X : S2x16x768.Idx → EReal) (b : Fin 2) (r : Fin 16) (n : Fin 768) :
    k0_pay66 (F := Ideal) (slotV X) (ix3 b r n) = X (ix3 b r n) := by
  pointwise [k0_pay66, slotV]

theorem accN_at (c : Dev nD) (b : Fin 2) (r : Fin 16) (n : Fin 768) : ∀ m : ℕ, accN In c m (ix3 b r n)
    = ∑ k ∈ Finset.range (m + 1), pfIdx (In (bwd c (Fin.ofNat 16 k))) ((chunkR c).emb (ix3 b r n))
  | 0 => by
    rw [Finset.sum_range_one, show bwd c (Fin.ofNat 16 0) = c from by revert c; decide]
    exact acc0_at (In c) c _
  | m + 1 => by
    rw [Finset.sum_range_succ, ← accN_at c b r n m]
    exact (add_at _ _ b r n).trans (congrArg _ (chunk_at _ _ _))

theorem bwd_bij (c : Dev nD) : Function.Bijective (fun k : Fin 16 => bwd c k) := by
  revert c; decide

theorem accAll_at (c : Dev nD) (b : Fin 2) (r : Fin 16) (n : Fin 768) : accG In c 16 (ix3 b r n) = sumIdx In ((chunkR c).emb (ix3 b r n)) := by
  refine (accN_at In c b r n 15).trans ?_
  rw [Finset.sum_range]
  refine Eq.trans (Finset.sum_congr rfl fun k _ => ?_)
    ((bwd_bij c).sum_comp fun d => pfIdx (In d) ((chunkR c).emb (ix3 b r n)))
  rw [show (Fin.ofNat 16 k.val : Fin 16) = k from Fin.ext (Nat.mod_eq_of_lt k.isLt)]

theorem out_piece (e : Dev nD) {P : S2x16x768.Idx → EReal} (hP : ∀ b r n, P (ix3 b r n) = accG In e 16 (ix3 b r n)) (x : S2x16x768.Idx) :
    P x = sumIdx In ((chunkR e).emb x) := by
  have ex : x = (ix3 (x 0 : Fin 2) (x 1 : Fin 16) (x 2 : Fin 768) : S2x16x768.Idx) := eq_ix3 (a := 2) (b := 16) (c := 768) x _ _ _ rfl rfl rfl
  refine (congrArg P ex).trans ((hP _ _ _).trans ((accAll_at In e _ _ _).trans (congrArg (fun z => sumIdx In ((chunkR e).emb z)) ex.symm)))

theorem outL_at (c : Dev nD) : ∀ n : ℕ, ∀ p ∈ outL In c n, ∀ x : p.1.shape.Idx, p.2 x = sumIdx In (p.1.emb x)
  | 0, p, hp => absurd hp List.not_mem_nil
  | 1, p, hp => by
    obtain rfl := List.mem_singleton.mp hp
    exact out_piece In c fun _ _ _ => rfl
  | n + 2, p, hp => by
    rcases List.mem_cons.mp hp with rfl | hp
    · exact out_piece In _ fun b r n => (land_at _ b r n).trans (red_at _ b r n)
    · exact outL_at c (n + 1) p hp

/-- Every device's result. -/
theorem outG_at (c : Dev nD) (y : S2x256x768.Idx) : outG In c y = sumIdx In y := by
  unfold outG
  exact View.canon_apply_of_pieces (sumIdx In) (outL In c 16) (outL_at In c 16) y (out_cover In c y)

end Cert.AttnProof

end
-- ==== Proof.RefVal.lean ====
/-
The reference read at an index, over the extended reals.
-/
module

public import proofs.«01_k».proof.ReferenceIdeal
public import proofs.«01_k».proof.Proof.Gen.ReferenceIdeal
public import proofs.«01_k».proof.Proof.Softmax
public import Idealize.ShloMosaic.Lib.IdealHost

@[expose] public section

set_option maxRecDepth 16384

noncomputable section

namespace Cert.AttnProof.Ref

open Cert.ReferenceIdeal Cert.ReferenceIdeal.Gen

open Idealize.ShloMosaic
open Idealize.ShloMosaic.TcCoe

/-- A projection, its columns split into heads. -/
def linR (x : FVec Ideal S2x256x768 .f32) (w : FVec Ideal S768x4096 .f32) : FVec Ideal S2x256x64x64 .f32 :=
  shapeCast _ (Host.dotGeneral dot_S2x256x768_S768x4096_S2x256x4096_2_0_01_1_n_n none x w) shapeCasts_S2x256x4096_S2x256x64x64

/-- The pairs of a projection turned by a quarter. -/
def turnR (L : FVec Ideal S2x256x64x64 .f32) : FVec Ideal S2x256x64x64 .f32 :=
  shapeCast _ (concatenate S2x256x64x32x2 4
    [⟨S2x256x64x32x1, broadcastInDim S2x256x64x32x1 ![0, 1, 2, 3] bcast_S2x256x64x32_S2x256x64x32x1_0_1_2_3
        (Host.negf (shapeCast _ (extractStridedSlice S2x256x64x32x1 ![0, 0, 0, 0, 1] (shapeCast _ L shapeCasts_S2x256x64x64_S2x256x64x32x2)
          slices_S2x256x64x32x2_S2x256x64x32x1_0_0_0_0_1) shapeCasts_S2x256x64x32x1_S2x256x64x32))⟩,
     ⟨S2x256x64x32x1, broadcastInDim S2x256x64x32x1 ![0, 1, 2, 3] bcast_S2x256x64x32_S2x256x64x32x1_0_1_2_3
        (shapeCast _ (extractStridedSlice S2x256x64x32x1 ![0, 0, 0, 0, 0] (shapeCast _ L shapeCasts_S2x256x64x64_S2x256x64x32x2)
          slices_S2x256x64x32x2_S2x256x64x32x1_0_0_0_0_0) shapeCasts_S2x256x64x32x1_S2x256x64x32)⟩]
    concatenates_S2x256x64x32x1_S2x256x64x32x1_S2x256x64x32x2_d4) shapeCasts_S2x256x64x32x2_S2x256x64x64

/-- A table at every batch element and head. -/
def tableR (t : FVec Ideal S256x64 .f32) : FVec Ideal S2x256x64x64 .f32 :=
  broadcastInDim S2x256x64x64 ![0, 1, 2, 3] bcast_S1x256x1x64_S2x256x64x64_0_1_2_3
    (broadcastInDim S1x256x1x64 ![1, 3] bcast_S256x64_S1x256x1x64_1_3 t)

def ropeR (co si : FVec Ideal S256x64 .f32) (L : FVec Ideal S2x256x64x64 .f32) : FVec Ideal S2x256x64x64 .f32 :=
  addf (mulf L (tableR co)) (mulf (turnR L) (tableR si))

def scoreR (Q K : FVec Ideal S2x256x64x64 .f32) : FVec Ideal S2x64x256x256 .f32 :=
  mulf (Host.dotGeneral dot_S2x256x64x64_S2x256x64x64_S2x64x256x256_3_3_1_1_02_02 none Q K)
    (broadcastInDim S2x64x256x256 ![] bcast_S_S2x64x256x256 (constant S_ .f32 0x3E000000#32))

/-- A row's number at each of its entries. -/
def rowsR (m : FVec Ideal S2x64x256 .f32) : FVec Ideal S2x64x256x256 .f32 :=
  broadcastInDim S2x64x256x256 ![0, 1, 2, 3] bcast_S2x64x256x1_S2x64x256x256_0_1_2_3
    (broadcastInDim S2x64x256x1 ![0, 1, 2] bcast_S2x64x256_S2x64x256x1_0_1_2 m)

def expR (S : FVec Ideal S2x64x256x256 .f32) : FVec Ideal S2x64x256x256 .f32 :=
  Host.exp (subf S (rowsR (Host.reduce FloatOps.maximumf S (constant S_ .f32 0xFF800000#32) reducesTo_S2x64x256x256_S2x64x256_d3 h_S_)))

def weightR (E : FVec Ideal S2x64x256x256 .f32) : FVec Ideal S2x64x256x256 .f32 :=
  Host.divf E (rowsR (Host.reduceAdd E (constant S_ .f32 0x00000000#32) reducesTo_S2x64x256x256_S2x64x256_d3 h_S_))

def outR (V : FVec Ideal S2x256x64x64 .f32) (W : FVec Ideal S2x64x256x256 .f32) (wo : FVec Ideal S4096x768 .f32) : FVec Ideal S2x256x768 .f32 :=
  Host.dotGeneral dot_S2x256x4096_S4096x768_S2x256x768_2_0_01_1_n_n none
    (shapeCast _ (transpose S2x256x64x64 [0, 3, 1, 2] (Host.dotGeneral dot_S2x256x64x64_S2x64x256x256_S2x64x64x256_1_3_3_2_02_01 none V W)
      transposes_S2x64x64x256_S2x256x64x64_0_3_1_2) shapeCasts_S2x256x64x64_S2x256x4096) wo

/-- The reference's result as a function of its seven arguments. -/
def refOut (x : FVec Ideal S2x256x768 .f32) (wq wk wv : FVec Ideal S768x4096 .f32) (wo : FVec Ideal S4096x768 .f32)
    (co si : FVec Ideal S256x64 .f32) : FVec Ideal S2x256x768 .f32 :=
  outR (linR x wv) (weightR (expR (scoreR (ropeR co si (linR x wq)) (ropeR co si (linR x wk))))) wo

/-- Entry `(b, i, n)` of a projection. -/
def linAt (x : S2x256x768.Idx → EReal) (w : S768x4096.Idx → EReal) (b : Fin 2) (i : Fin 256) (n : Fin 4096) : EReal :=
  ∑ k : Fin 768, x (ix3 b i k) * w (ix2 k n)

/-- A head's rows `L` rotated. -/
def ropeAt (co si : S256x64.Idx → EReal) (L : Fin 256 → Fin 64 → EReal) (i : Fin 256) (d : Fin 64) : EReal :=
  L i d * co (ix2 i d) + quarter (n := 64) rfl (L i) d * si (ix2 i d)

theorem col_lt (h d : Fin 64) : 64 * h.val + d.val < 4096 := by omega

/-- The rows of head `h` of a projection. -/
def headLin (x : S2x256x768.Idx → EReal) (w : S768x4096.Idx → EReal) (b : Fin 2) (h : Fin 64) (i : Fin 256) (d : Fin 64) : EReal :=
  linAt x w b i ⟨64 * h.val + d.val, col_lt h d⟩

theorem linR_at (x : FVec Ideal S2x256x768 .f32) (w : FVec Ideal S768x4096 .f32) (b : Fin 2) (i : Fin 256) (h d : Fin 64) :
    linR x w (ix4 b i h d) = headLin x w b h i d := by
  pointwise [linR, headLin, linAt]
  refine Finset.sum_congr rfl fun k _ => ?_
  exact congrArg (fun e : Fin 4096 => x (ix3 b i k) * w (ix2 k e)) (Fin.ext (by show h.val * 64 + d.val = 64 * h.val + d.val; omega))
theorem turnR_at (L : FVec Ideal S2x256x64x64 .f32) (b : Fin 2) (i : Fin 256) (h d : Fin 64) :
    turnR L (ix4 b i h d) = quarter (n := 64) rfl (fun e => L (ix4 b i h e)) d := by
  pointwise [turnR]
  by_cases hd : d.val % 2 = 0
  · refine (dif_pos (show d.val % 2 < 1 by omega)).trans (Eq.trans ?_ (dif_pos hd).symm)
    exact congrArg (fun e : Fin 64 => -L (ix4 b i h e)) (Fin.ext (by show d.val / 2 * 2 + 1 = d.val + 1; omega))
  · refine (dif_neg (show ¬ d.val % 2 < 1 by omega)).trans (Eq.trans ?_ (dif_neg hd).symm)
    exact congrArg (fun e : Fin 64 => L (ix4 b i h e)) (Fin.ext (by show d.val / 2 * 2 = d.val - 1; omega))
theorem tableR_at (t : FVec Ideal S256x64 .f32) (b : Fin 2) (i : Fin 256) (h d : Fin 64) : tableR t (ix4 b i h d) = t (ix2 i d) := by
  pointwise [tableR]
theorem ropeR_at (co si : FVec Ideal S256x64 .f32) (x : FVec Ideal S2x256x768 .f32) (w : FVec Ideal S768x4096 .f32)
    (b : Fin 2) (i : Fin 256) (h d : Fin 64) :
    ropeR co si (linR x w) (ix4 b i h d) = ropeAt co si (headLin x w b h) i d := by
  pointwise [ropeR, turnR_at, tableR_at, linR_at, ropeAt]

theorem scoreR_at (Q K : FVec Ideal S2x256x64x64 .f32) (b : Fin 2) (h : Fin 64) (i j : Fin 256) :
    scoreR Q K (ix4 b h i j) = score (((1 : ℝ) / 8 : ℝ) : EReal) (fun r e => Q (ix4 b r h e)) (fun r e => K (ix4 b r h e)) i j := by
  pointwise [scoreR, score, eighth_f32]
theorem expR_at (S : FVec Ideal S2x64x256x256 .f32) (b : Fin 2) (h : Fin 64) (i j : Fin 256) :
    expR S (ix4 b h i j) = Ideal.exp (S (ix4 b h i j) - Finset.univ.fold max (⊥ : EReal) fun k => S (ix4 b h i k)) := by
  pointwise [expR, rowsR, neg_inf_f32]
theorem weightR_at (E : FVec Ideal S2x64x256x256 .f32) (b : Fin 2) (h : Fin 64) (i j : Fin 256) :
    weightR E (ix4 b h i j) = Ideal.div (E (ix4 b h i j)) (∑ k, E (ix4 b h i k)) := by
  pointwise [weightR, rowsR]

/-- Head `h` of the reference. -/
def headRef (x : S2x256x768.Idx → EReal) (wq wk wv : S768x4096.Idx → EReal) (co si : S256x64.Idx → EReal)
    (b : Fin 2) (h : Fin 64) (i : Fin 256) (d : Fin 64) : EReal :=
  headEarly (((1 : ℝ) / 8 : ℝ) : EReal) (ropeAt co si (headLin x wq b h)) (ropeAt co si (headLin x wk b h)) (headLin x wv b h) i d

theorem soft_at (Q K : FVec Ideal S2x256x64x64 .f32) (q k : Fin 256 → Fin 64 → EReal) (b : Fin 2) (h : Fin 64)
    (hq : ∀ r e, Q (ix4 b r h e) = q r e) (hk : ∀ r e, K (ix4 b r h e) = k r e) (i j : Fin 256) :
    weightR (expR (scoreR Q K)) (ix4 b h i j)
      = Ideal.div (Ideal.exp (score (((1 : ℝ) / 8 : ℝ) : EReal) q k i j - scoreMax (((1 : ℝ) / 8 : ℝ) : EReal) q k i))
        (∑ j, Ideal.exp (score (((1 : ℝ) / 8 : ℝ) : EReal) q k i j - scoreMax (((1 : ℝ) / 8 : ℝ) : EReal) q k i)) := by
  have hs : ∀ j, scoreR Q K (ix4 b h i j) = score (((1 : ℝ) / 8 : ℝ) : EReal) q k i j := fun j => by
    rw [scoreR_at, funext fun r => funext fun e => hq r e, funext fun r => funext fun e => hk r e]
  simp only [weightR_at, expR_at, hs, scoreMax]

theorem outR_at (V : FVec Ideal S2x256x64x64 .f32) (W : FVec Ideal S2x64x256x256 .f32) (wo : FVec Ideal S4096x768 .f32)
    (b : Fin 2) (i : Fin 256) (n : Fin 768) :
    outR V W wo (ix3 b i n) = ∑ l : Fin 4096, (∑ j : Fin 256, V (ix4 b j ⟨l.val / 64, by omega⟩ ⟨l.val % 64, Nat.mod_lt _ (by decide)⟩)
      * W (ix4 b ⟨l.val / 64, by omega⟩ i j)) * wo (ix2 l n) := by
  pointwise [outR]

theorem refOut_at (x : FVec Ideal S2x256x768 .f32) (wq wk wv : FVec Ideal S768x4096 .f32) (wo : FVec Ideal S4096x768 .f32)
    (co si : FVec Ideal S256x64 .f32) (b : Fin 2) (i : Fin 256) (n : Fin 768) :
    refOut x wq wk wv wo co si (ix3 b i n)
      = ∑ l : Fin 4096, headRef x wq wk wv co si b ⟨l.val / 64, by omega⟩ i ⟨l.val % 64, Nat.mod_lt _ (by decide)⟩ * wo (ix2 l n) := by
  refine (outR_at _ _ wo b i n).trans (Finset.sum_congr rfl fun l _ => congrArg (· * wo (ix2 l n)) ?_)
  unfold headRef headEarly
  refine Finset.sum_congr rfl fun j _ => ?_
  rw [linR_at, soft_at _ _ _ _ b _ (fun r e => ropeR_at co si x wq b r _ e) (fun r e => ropeR_at co si x wk b r _ e)]

end Cert.AttnProof.Ref

end
-- ==== Proof.Value.lean ====
/-
The two programs' values meet: the kernel's sum over the devices and their columns is the reference's product with the
projection's weights, when the scores are real numbers.
-/
module

public import proofs.«01_k».proof.Proof.KernelVal
public import proofs.«01_k».proof.Proof.RefVal

@[expose] public section

set_option maxRecDepth 16384

noncomputable section

namespace Cert.AttnProof

open Cert.KernelIdeal (nD S2x256x768 S768x256 S256x768 S256x64)
open Idealize.ShloMosaic

theorem wide_lt (c : Dev nD) (l : Fin 256) : 256 * c.val + l.val < 4096 := by have : c.val < 16 := c.isLt; omega
/-- Column `l` of device `c` among all columns. -/
def wide (c : Dev nD) (l : Fin 256) : Fin 4096 := ⟨256 * c.val + l.val, wide_lt c l⟩

/-- The devices' blocks are those of the whole arrays. -/
structure Meets (In : Dev nD → Ins Ideal) (x : S2x256x768.Idx → EReal) (wq wk wv : Cert.ReferenceIdeal.S768x4096.Idx → EReal)
    (wo : Cert.ReferenceIdeal.S4096x768.Idx → EReal) (co si : S256x64.Idx → EReal) : Prop where
  x : ∀ c, (In c).x = x
  wq : ∀ c (k : Fin 768) (l : Fin 256), (In c).wq (ix2 k l) = wq (ix2 k (wide c l))
  wk : ∀ c (k : Fin 768) (l : Fin 256), (In c).wk (ix2 k l) = wk (ix2 k (wide c l))
  wv : ∀ c (k : Fin 768) (l : Fin 256), (In c).wv (ix2 k l) = wv (ix2 k (wide c l))
  wo : ∀ c (l : Fin 256) (n : Fin 768), (In c).wo (ix2 l n) = wo (ix2 (wide c l) n)
  co : ∀ c, (In c).co = co
  si : ∀ c, (In c).si = si

/-- What makes a device's scores real numbers. -/
structure RealIns (I : Ins Ideal) : Prop where
  x : ∀ y, Rl (I.x y)
  wq : ∀ y, Rl (I.wq y)
  wk : ∀ y, Rl (I.wk y)
  co : ∀ y, Rl (I.co y)
  si : ∀ y, Rl (I.si y)

theorem Rl.rope {co si : S256x64.Idx → EReal} {L : Fin 256 → Fin 256 → EReal} (hc : ∀ y, Rl (co y)) (hs : ∀ y, Rl (si y))
    (hL : ∀ r l, Rl (L r l)) (r l : Fin 256) : Rl (rope co si L r l) :=
  ((hL r l).mul (hc _)).add ((Rl.quarter _ (hL r) l).mul (hs _))

theorem Rl.lin {x : S2x256x768.Idx → EReal} {w : S768x256.Idx → EReal} (hx : ∀ y, Rl (x y)) (hw : ∀ y, Rl (w y)) (b : Fin 2)
    (r l : Fin 256) : Rl (lin x w b r l) := Rl.sum _ fun _ => (hx _).mul (hw _)

theorem head_lt (c : Dev nD) (h : Fin 4) : 4 * c.val + h.val < 64 := by have : c.val < 16 := c.isLt; omega
/-- Head `h` of device `c` among all heads. -/
def hd (c : Dev nD) (h : Fin 4) : Fin 64 := ⟨4 * c.val + h.val, head_lt c h⟩

/-- A device's columns of a projection are those of its heads. -/
theorem lin_head {x : S2x256x768.Idx → EReal} {w : S768x256.Idx → EReal} {W : Cert.ReferenceIdeal.S768x4096.Idx → EReal} (c : Dev nD)
    (h : ∀ (k : Fin 768) (l : Fin 256), w (ix2 k l) = W (ix2 k (wide c l))) (b : Fin 2) (g : Fin 4) (r : Fin 256) (e : Fin 64)
    (he : 64 * g.val + e.val < 256) : lin x w b r ⟨64 * g.val + e.val, he⟩ = Ref.headLin x W b (hd c g) r e := by
  unfold lin Ref.headLin Ref.linAt
  refine Finset.sum_congr rfl fun k _ => ?_
  rw [h]
  exact congrArg (fun n : Fin 4096 => x (ix3 b r k) * W (ix2 k n))
    (Fin.ext (by show 256 * c.val + (64 * g.val + e.val) = 64 * (4 * c.val + g.val) + e.val; omega))

/-- A rotated row of all the device's heads is one of each head. -/
theorem rope_head (co si : S256x64.Idx → EReal) (L : Fin 256 → Fin 256 → EReal) (M : Fin 256 → Fin 64 → EReal) (g : Fin 4)
    (hM : ∀ (r : Fin 256) (e : Fin 64) (he : 64 * g.val + e.val < 256), L r ⟨64 * g.val + e.val, he⟩ = M r e) (r : Fin 256) (e : Fin 64)
    (he : 64 * g.val + e.val < 256) : rope co si L r ⟨64 * g.val + e.val, he⟩ = Ref.ropeAt co si M r e := by
  have hm : (⟨(64 * g.val + e.val) % 64, Nat.mod_lt _ (by decide)⟩ : Fin 64) = e :=
    Fin.ext (by show (64 * g.val + e.val) % 64 = e.val; have := e.isLt; omega)
  unfold rope Ref.ropeAt
  rw [hM, hm, quarter_part (n := 256) (k := 64) rfl rfl (L r) (64 * g.val) (by omega) (by omega) e]
  congr 3
  exact funext fun d => hM r d _

theorem head_meets {I : Ins Ideal} (hr : RealIns I) {wq wk wv : Cert.ReferenceIdeal.S768x4096.Idx → EReal} (c : Dev nD)
    (hq : ∀ (k : Fin 768) (l : Fin 256), I.wq (ix2 k l) = wq (ix2 k (wide c l)))
    (hk : ∀ (k : Fin 768) (l : Fin 256), I.wk (ix2 k l) = wk (ix2 k (wide c l)))
    (hv : ∀ (k : Fin 768) (l : Fin 256), I.wv (ix2 k l) = wv (ix2 k (wide c l)))
    (b : Fin 2) (g : Fin 4) (ho : 64 * g.val + 64 ≤ 256) (i : Fin 256) (d : Fin 64) :
    headAt I b (64 * g.val) ho i d = Ref.headRef I.x wq wk wv I.co I.si b (hd c g) i d := by
  unfold headAt Ref.headRef
  rw [head_eq (by decide) _ _ _ _ (fun r e => Rl.rope hr.co hr.si (Rl.lin hr.x hr.wq b) r _)
    (fun r e => Rl.rope hr.co hr.si (Rl.lin hr.x hr.wk b) r _)]
  congr 1
  · exact funext fun r => funext fun e => rope_head _ _ _ _ g (fun r e he => lin_head c hq b g r e he) r e _
  · exact funext fun r => funext fun e => rope_head _ _ _ _ g (fun r e he => lin_head c hk b g r e he) r e _
  · exact funext fun r => funext fun e => lin_head c hv b g r e _

/-- All columns, device by device. -/
theorem sum_wide (f : Fin 4096 → EReal) : ∑ c : Dev nD, ∑ l : Fin 256, f (wide c l) = ∑ n : Fin 4096, f n := by
  rw [← Fintype.sum_prod_type' (f := fun (c : Fin 16) (l : Fin 256) => f (wide c l))]
  refine Fintype.sum_equiv (finProdFinEquiv (m := 16) (n := 256)) _ _ fun p => congrArg f (Fin.ext ?_)
  show 256 * p.1.val + p.2.val = p.2.val + 256 * p.1.val
  omega

theorem value_meets (In : Dev nD → Ins Ideal) {x : S2x256x768.Idx → EReal} {wq wk wv : Cert.ReferenceIdeal.S768x4096.Idx → EReal}
    {wo : Cert.ReferenceIdeal.S4096x768.Idx → EReal} {co si : S256x64.Idx → EReal} (hm : Meets In x wq wk wv wo co si)
    (hr : ∀ c, RealIns (In c)) (y : S2x256x768.Idx) : sumIdx In y = Ref.refOut x wq wk wv wo co si y := by
  have ey : y = ix3 (y 0 : Fin 2) (y 1 : Fin 256) (y 2 : Fin 768) := eq_ix3 (a := 2) (b := 256) (c := 768) y _ _ _ rfl rfl rfl
  refine Eq.trans ?_ ((Ref.refOut_at x wq wk wv wo co si (y 0) (y 1) (y 2)).symm.trans (congrArg (Ref.refOut x wq wk wv wo co si) ey.symm))
  rw [← sum_wide]
  refine Finset.sum_congr rfl fun c _ => ?_
  show ∑ l : Fin 256, ctxAt (In c) (ix3 (y 0 : Fin 2) (y 1 : Fin 256) l) * (In c).wo (ix2 l (y 2 : Fin 768)) = _
  refine Finset.sum_congr rfl fun l _ => ?_
  have hl := l.isLt
  refine congrArg₂ (· * ·) ?_ (hm.wo c l _)
  refine (headAt_congr (In c) (o' := 64 * (⟨l.val / 64, by omega⟩ : Fin 4).val) (ho' := by show 64 * (l.val / 64) + 64 ≤ 256; omega)
    (d' := ⟨l.val % 64, Nat.mod_lt _ (by decide)⟩) rfl rfl).trans ?_
  refine (head_meets (hr c) c (hm.wq c) (hm.wk c) (hm.wv c) (y 0) ⟨l.val / 64, by omega⟩ _ (y 1) _).trans ?_
  rw [hm.x c, hm.co c, hm.si c]
  congr 1
  · exact Fin.ext (by show 4 * c.val + l.val / 64 = (256 * c.val + l.val) / 64; omega)
  · exact Fin.ext (by show l.val % 64 = (256 * c.val + l.val) % 64; omega)

end Cert.AttnProof

end
-- ==== Proof.Algebraic.lean ====
/-
The two programs compared: the kernel's run ends with every device holding what the reference's run ends with, when the
values its scores are made of are finite.
-/
module

public import proofs.«01_k».proof.Defs
public import proofs.«01_k».proof.Proof.Frames
public import proofs.«01_k».proof.Proof.Value
public import proofs.«01_k».proof.Proof.Gen.Pre_finite_KernelIdeal
public import Idealize.ShloMosaic.Lib.ReduceAll
public import Idealize.ShloMosaic.Lib.Layout
public import Idealize.ShloMosaic.Lib.Pipeline.ValueKit.Geometry

@[expose] public section

set_option maxRecDepth 16384

noncomputable section

namespace Cert.AttnProof

open Cert.KernelIdeal Cert.KernelIdeal.Gen
open Idealize.ShloMosaic
open Idealize.ShloMosaic.TcCoe
open Idealize.SL.Sem

/-! ## What the precondition says -/

theorem pos_inf_f32 : Ideal.ofBits .f32 0x7F800000#32 = (⊤ : EReal) := by
  simp [Ideal.ofBits, Ideal.ieee]

/-- A value below plus infinity in absolute value is a real number. -/
theorem Rl.of_abs (x : Ideal .f32)
    (h : FloatOps.cmpf .olt (FloatOps.hostAbsf x) (FloatOps.ofBits (F := Ideal) .f32 0x7F800000#32) = 1#1) : Rl x := by
  have h' : BitVec.ofBool (decide (max (x : EReal) (-x) < Ideal.ofBits .f32 0x7F800000#32)) = 1#1 := h
  rw [pos_inf_f32] at h'
  have hlt : max (x : EReal) (-x) < ⊤ := by
    by_contra hn
    rw [decide_eq_false hn] at h'
    exact absurd h' (by decide)
  rw [max_lt_iff] at hlt
  refine Rl.mk hlt.1.ne fun hb => ?_
  rw [hb] at hlt
  exact absurd hlt.2 (by simp)

instance : Subsingleton Cert.Pre_finite_KernelIdeal.S_.Idx := ⟨fun _ _ => funext fun a => a.elim0⟩

/-- One operand of the precondition: all its entries are real numbers. -/
theorem Rl.of_all {s : Shape} {axes : List (Fin s.rank)} (x : FVec Ideal s .f32) (hb : Cert.Pre_finite_KernelIdeal.S_.BroadcastsInDim s ![])
    (hr : s.ReducesTo axes Cert.Pre_finite_KernelIdeal.S_) (hu : 0 < Cert.Pre_finite_KernelIdeal.S_.numel) (init : IVec Cert.Pre_finite_KernelIdeal.S_ 1)
    (j : Cert.Pre_finite_KernelIdeal.S_.Idx)
    (h : Host.reduce IntOp.andi (cmpf .olt (Host.absf x) (broadcastInDim s ![] hb (constant Cert.Pre_finite_KernelIdeal.S_ .f32 0x7F800000#32))) init hr hu j = 1#1)
    (y : s.Idx) : Rl (x y) :=
  Rl.of_abs (x y) (Host.reduce_andi_all _ init hr hu j h y)

theorem real_of_pre (x : FVec Ideal S2x256x768 .f32) (wq wk wv : FVec Ideal S768x256 .f32) (wo : FVec Ideal S256x768 .f32) (co si : FVec Ideal S256x64 .f32)
    (h : Cert.Pre_finite_KernelIdeal.fn (F := Ideal) x wq wk wv wo co si = fun _ => 1#1) :
    (∀ y, Rl (x y)) ∧ (∀ y, Rl (wq y)) ∧ (∀ y, Rl (wk y)) ∧ (∀ y, Rl (co y)) ∧ ∀ y, Rl (si y) := by
  have h0 := congrFun h (fun a => a.elim0)
  unfold Cert.Pre_finite_KernelIdeal.fn Cert.Pre_finite_KernelIdeal.fn_part1 at h0
  obtain ⟨h1, hsi⟩ := IntOp.andi_eq_one.1 h0
  obtain ⟨h2, hco⟩ := IntOp.andi_eq_one.1 h1
  obtain ⟨h3, hwk⟩ := IntOp.andi_eq_one.1 h2
  obtain ⟨hx, hwq⟩ := IntOp.andi_eq_one.1 h3
  exact ⟨Rl.of_all _ _ _ _ _ _ hx, Rl.of_all _ _ _ _ _ _ hwq, Rl.of_all _ _ _ _ _ _ hwk, Rl.of_all _ _ _ _ _ _ hco, Rl.of_all _ _ _ _ _ _ hsi⟩

/-! ## The arrays and the windows -/

section Arrays

variable {F : FTy → Type} [FloatOps F] (m : (ℓ : Loc nD τ sig) → Buf (Elt F) ℓ) (ρ : Dev nD → PrngReg)

/-- Where a window's block at block index zero lies in the array: its coordinates are the array's. -/
theorem blk_emb {G : Pipeline.Grid} (w : Pipeline.Window sig G) (t : Fin G.N) (h : ∀ a, w.index t a = 0) (y : (w.xblock (G.coords t)).Idx)
    (j : w.shape.Idx) (hj : ∀ a, (j a : ℕ) = y a) : (w.blk t).view.emb y = w.arr.view.emb j := by
  show w.arr.view.emb ((w.rect t).emb y) = _
  refine congrArg _ (funext fun a => Fin.ext ?_)
  rw [Pipeline.Window.rect_emb_val_of_index_zero _ _ _ (h a), hj]

/-- Each input is staged whole. -/
theorem ins_eq (c : Dev nD) : ins m ρ c = ⟨m ((c.tc : Thread nD τ).loc main_arg0), m ((c.tc : Thread nD τ).loc main_arg1),
    m ((c.tc : Thread nD τ).loc main_arg2), m ((c.tc : Thread nD τ).loc main_arg3), m ((c.tc : Thread nD τ).loc main_arg4),
    m ((c.tc : Thread nD τ).loc main_arg5), m ((c.tc : Thread nD τ).loc main_arg6)⟩ := by
  unfold ins
  congr 1
  · exact funext fun y => congrArg (m ((c.tc : Thread nD τ).loc main_arg0)) (blk_emb win0_0 t0_0 (by decide +kernel) y y fun _ => rfl)
  · exact funext fun y => congrArg (m ((c.tc : Thread nD τ).loc main_arg1)) (blk_emb win0_1 t0_0 (by decide +kernel) y y fun _ => rfl)
  · exact funext fun y => congrArg (m ((c.tc : Thread nD τ).loc main_arg2)) (blk_emb win0_2 t0_0 (by decide +kernel) y y fun _ => rfl)
  · exact funext fun y => congrArg (m ((c.tc : Thread nD τ).loc main_arg3)) (blk_emb win0_3 t0_0 (by decide +kernel) y y fun _ => rfl)
  · exact funext fun y => congrArg (m ((c.tc : Thread nD τ).loc main_arg4)) (blk_emb win0_4 t0_0 (by decide +kernel) y y fun _ => rfl)
  · exact funext fun y => congrArg (m ((c.tc : Thread nD τ).loc main_arg5)) (blk_emb win0_5 t0_0 (by decide +kernel) y y fun _ => rfl)
  · exact funext fun y => congrArg (m ((c.tc : Thread nD τ).loc main_arg6)) (blk_emb win0_6 t0_0 (by decide +kernel) y y fun _ => rfl)

attribute [local irreducible] outG ins in
theorem finalA_out (c : Dev nD) : finalA m ρ c 7 = outG (ins m ρ) c := by
  unfold finalA
  refine (dats m ρ 0 c).arrAt_eq_of_after_last (7 : Fin cfg0.W) t0_0 (by decide +kernel) (outG (ins m ρ) c) fun j => ?_
  show outG (ins m ρ) c _ = outG (ins m ρ) c _
  rfl

end Arrays

theorem ref_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v55 m' c
      = Ref.refOut (m' (((c.tc : Thread Cert.ReferenceIdeal.nD Cert.ReferenceIdeal.τ)).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  unfold Cert.ReferenceIdeal.Value.res_main_v55
  rfl

/-! ## The claim -/

theorem cols_at (v : (⟨2, ![768, 4096]⟩ : Shape).Idx → EReal) (c : Dev nD) (k : Fin 768) (l : Fin 256) :
    Layout.block ⟨2, ![768, 256]⟩ ⟨2, ![768, 4096]⟩ 1 16 c v (by decide) (ix2 k l) = v (ix2 k (wide c l)) := by
  rw [Layout.block_apply]
  refine congrArg v (funext fun a => ?_)
  have h := Layout.idx_cols_val (dS := ![768, 256]) (dT := ![768, 4096]) (k := 16) (by decide) c (ix2 k l)
  refine Fin.cases ?_ (fun a => Fin.cases ?_ (fun a => a.elim0) a) a
  · exact Fin.ext h.1
  · exact Fin.ext (h.2.trans (by show c.val * 256 + l.val = 256 * c.val + l.val; omega))

theorem rows_at (v : (⟨2, ![4096, 768]⟩ : Shape).Idx → EReal) (c : Dev nD) (l : Fin 256) (n : Fin 768) :
    Layout.block ⟨2, ![256, 768]⟩ ⟨2, ![4096, 768]⟩ 0 16 c v (by decide) (ix2 l n) = v (ix2 (wide c l) n) := by
  rw [Layout.block_apply]
  refine congrArg v (funext fun a => ?_)
  have h := Layout.idx_rows_val (dS := ![256, 768]) (dT := ![4096, 768]) (k := 16) (by decide) c (ix2 l n)
  refine Fin.cases ?_ (fun a => Fin.cases ?_ (fun a => a.elim0) a) a
  · exact Fin.ext (h.1.trans (by show c.val * 256 + l.val = 256 * c.val + l.val; omega))
  · exact Fin.ext h.2

theorem algebraic : Cert.algebraic_KernelIdeal_ReferenceIdeal_pre_finite_KernelIdeal := fun m g m' g' hpre hargs => by
  have hI := fun c => ins_eq m g c
  have hreal : ∀ c, RealIns (ins m g c) := fun c => by
    obtain ⟨hx, hq, hk, hc, hs⟩ := real_of_pre _ _ _ _ _ _ _ (hpre c)
    rw [hI c]
    exact ⟨hx, hq, hk, hc, hs⟩
  have hmeets : Meets (ins m g) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)) :=
    { x := fun c => by rw [hI c]; exact (hargs c).1
      wq := fun c k l => by rw [hI c]; exact (congrFun (hargs c).2.1 (ix2 k l)).trans (cols_at _ c k l)
      wk := fun c k l => by rw [hI c]; exact (congrFun (hargs c).2.2.1 (ix2 k l)).trans (cols_at _ c k l)
      wv := fun c k l => by rw [hI c]; exact (congrFun (hargs c).2.2.2.1 (ix2 k l)).trans (cols_at _ c k l)
      wo := fun c l n => by rw [hI c]; exact (congrFun (hargs c).2.2.2.2.1 (ix2 l n)).trans (rows_at _ c l n)
      co := fun c => by rw [hI c]; exact (hargs c).2.2.2.2.2.1
      si := fun c => by rw [hI c]; exact (hargs c).2.2.2.2.2.2 }
  refine ⟨Cert.ReferenceIdeal.Value.res_main_v55 m' 0, ?_, ?_⟩
  · refine (θ_run defs _ _).mono (fun r h c => ⟨?_, h.1.args m g c⟩) (run_main (F := Ideal) m g)
    refine (h.1 c 7).trans ((finalA_out m g c).trans ?_)
    rw [ref_eq]
    exact funext fun y => (outG_at (ins m g) c y).trans (value_meets (ins m g) hmeets hreal y)
  · exact (θ_run Cert.ReferenceIdeal.defs _ _).mono (fun r h => h 0) (Cert.ReferenceIdeal.Value.run (F := Ideal) m' g')

end Cert.AttnProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.AttnProof.frame_kernel, Cert.AttnProof.frame_ideal, fun m g _ => Cert.AttnProof.frame_ideal m g trivial,
  Cert.AttnProof.frame_reference, fun m g _ => Cert.AttnProof.frame_reference m g trivial, trivial, Cert.AttnProof.algebraic⟩

end Cert.Proof

end
